-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![64, 512, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![64, 1024, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S1x512 : Shape := ⟨2, ![1, 512]⟩
abbrev S64 : Shape := ⟨1, ![64]⟩
abbrev S64x1 : Shape := ⟨2, ![64, 1]⟩
abbrev S64x512 : Shape := ⟨2, ![64, 512]⟩
abbrev S_ : Shape := ⟨0, ![]⟩

class Facts : Prop where
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  natLt_1_32 : 1 < 32
  reducesTo_S64x512_S64_d1 : S64x512.ReducesTo [1] S64
  h_S_ : 0 < S_.numel
  bcast_S_S64 : S_.BroadcastsInDim S64 (![] : Fin 0 → Fin S64.rank)

variable [Facts]

def fn {F : FTy → Type} [FloatOps F] (main_arg0 : FVec F S512x512 .bf16) (main_arg1 : IVec S512 32) (main_arg2 : FVec F S2x512x1024 .bf16) (main_arg3 : FVec F S2x1024x512 .bf16) : IVec S64 1 :=
  let main_v0 : IVec S1x512 32 := broadcastInDim S1x512 ![1] bcast_S512_S1x512_1 main_arg1
  let main_v1 : IVec S64 32 := iotaInDim S64 32 0
  let main_v2 : IVec S64x1 32 := broadcastInDim S64x1 ![0] bcast_S64_S64x1_0 main_v1
  let main_v3 : IVec S64x512 32 := broadcastInDim S64x512 ![0, 1] bcast_S1x512_S64x512_0_1 main_v0
  let main_v4 : IVec S64x512 32 := broadcastInDim S64x512 ![0, 1] bcast_S64x1_S64x512_0_1 main_v2
  let main_v5 : IVec S64x512 1 := cmpi .eq main_v3 main_v4
  let main_v6 : IVec S64x512 32 := (extui 32 · natLt_1_32) main_v5
  let main_c : IVec S_ 32 := constantI S_ 32 0#32
  let main_v7 : IVec S64 32 := (fun x v => Host.reduce IntOp.addi x v reducesTo_S64x512_S64_d1 h_S_) main_v6 main_c
  let main_c_0 : IVec S_ 32 := constantI S_ 32 20#32
  let main_v8 : IVec S64 32 := broadcastInDim S64 ![] bcast_S_S64 main_c_0
  let main_v9 : IVec S64 1 := cmpi .sle main_v7 main_v8
  main_v9
-- ==== Pre_fits_ReferenceIdeal.lean ====
abbrev S16384x512 : Shape := ⟨2, ![16384, 512]⟩
abbrev S16384 : Shape := ⟨1, ![16384]⟩
abbrev S64x512x1024 : Shape := ⟨3, ![64, 512, 1024]⟩
abbrev S64x1024x512 : Shape := ⟨3, ![64, 1024, 512]⟩
abbrev S1x16384 : Shape := ⟨2, ![1, 16384]⟩
abbrev S64 : Shape := ⟨1, ![64]⟩
abbrev S64x1 : Shape := ⟨2, ![64, 1]⟩
abbrev S64x16384 : Shape := ⟨2, ![64, 16384]⟩
abbrev S_ : Shape := ⟨0, ![]⟩

class Facts : Prop where
  bcast_S16384_S1x16384_1 : S16384.BroadcastsInDim S1x16384 (![1] : Fin 1 → Fin S1x16384.rank)
  bcast_S64_S64x1_0 : S64.BroadcastsInDim S64x1 (![0] : Fin 1 → Fin S64x1.rank)
  bcast_S1x16384_S64x16384_0_1 : S1x16384.BroadcastsInDim S64x16384 (![0, 1] : Fin 2 → Fin S64x16384.rank)
  bcast_S64x1_S64x16384_0_1 : S64x1.BroadcastsInDim S64x16384 (![0, 1] : Fin 2 → Fin S64x16384.rank)
  natLt_1_32 : 1 < 32
  reducesTo_S64x16384_S64_d1 : S64x16384.ReducesTo [1] S64
  h_S_ : 0 < S_.numel
  bcast_S_S64 : S_.BroadcastsInDim S64 (![] : Fin 0 → Fin S64.rank)

variable [Facts]

def fn {F : FTy → Type} [FloatOps F] (main_arg0 : FVec F S16384x512 .bf16) (main_arg1 : IVec S16384 32) (main_arg2 : FVec F S64x512x1024 .bf16) (main_arg3 : FVec F S64x1024x512 .bf16) : IVec S64 1 :=
  let main_v0 : IVec S1x16384 32 := broadcastInDim S1x16384 ![1] bcast_S16384_S1x16384_1 main_arg1
  let main_v1 : IVec S64 32 := iotaInDim S64 32 0
  let main_v2 : IVec S64x1 32 := broadcastInDim S64x1 ![0] bcast_S64_S64x1_0 main_v1
  let main_v3 : IVec S64x16384 32 := broadcastInDim S64x16384 ![0, 1] bcast_S1x16384_S64x16384_0_1 main_v0
  let main_v4 : IVec S64x16384 32 := broadcastInDim S64x16384 ![0, 1] bcast_S64x1_S64x16384_0_1 main_v2
  let main_v5 : IVec S64x16384 1 := cmpi .eq main_v3 main_v4
  let main_v6 : IVec S64x16384 32 := (extui 32 · natLt_1_32) main_v5
  let main_c : IVec S_ 32 := constantI S_ 32 0#32
  let main_v7 : IVec S64 32 := (fun x v => Host.reduce IntOp.addi x v reducesTo_S64x16384_S64_d1 h_S_) main_v6 main_c
  let main_c_0 : IVec S_ 32 := constantI S_ 32 20#32
  let main_v8 : IVec S64 32 := broadcastInDim S64 ![] bcast_S_S64 main_c_0
  let main_v9 : IVec S64 1 := cmpi .sle main_v7 main_v8
  main_v9
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S32x40x512 : Shape := ⟨3, ![32, 40, 512]⟩
abbrev S32 : Shape := ⟨1, ![32]⟩
abbrev S512x1 : Shape := ⟨2, ![512, 1]⟩
abbrev S1x512 : Shape := ⟨2, ![1, 512]⟩
abbrev S512x64 : Shape := ⟨2, ![512, 64]⟩
abbrev S1x1280 : Shape := ⟨2, ![1, 1280]⟩
abbrev S512x1280 : Shape := ⟨2, ![512, 1280]⟩
abbrev S_ : Shape := ⟨0, ![]⟩
abbrev S1280x512 : Shape := ⟨2, ![1280, 512]⟩
abbrev S1x40x512 : Shape := ⟨3, ![1, 40, 512]⟩
abbrev S40x512 : Shape := ⟨2, ![40, 512]⟩
abbrev S1 : Shape := ⟨1, ![1]⟩
abbrev S8x20x512 : Shape := ⟨3, ![8, 20, 512]⟩
abbrev S160x512 : Shape := ⟨2, ![160, 512]⟩
abbrev S1x512x1024 : Shape := ⟨3, ![1, 512, 1024]⟩
abbrev S512x1024 : Shape := ⟨2, ![512, 1024]⟩
abbrev S160x1024 : Shape := ⟨2, ![160, 1024]⟩
abbrev S1x1024x512 : Shape := ⟨3, ![1, 1024, 512]⟩
abbrev S1024x512 : Shape := ⟨2, ![1024, 512]⟩
abbrev S512x320 : Shape := ⟨2, ![512, 320]⟩
abbrev S8x40x512 : Shape := ⟨3, ![8, 40, 512]⟩
abbrev S320x512 : Shape := ⟨2, ![320, 512]⟩

abbrev nBuf : Space → Nat
  | .hbm => 5
  | .vmem => 12
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x512, .f32⟩
  | .local _ .vmem, ⟨0, _⟩ => ⟨S512x512, .bf16⟩
  | .local _ .vmem, ⟨1, _⟩ => ⟨S512, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S32x40x512, .bf16⟩
  | .local _ .vmem, ⟨6, _⟩ => ⟨S32x40x512, .bf16⟩
  | .local _ .vmem, ⟨7, _⟩ => ⟨S32x40x512, .bf16⟩
  | .local _ .vmem, ⟨8, _⟩ => ⟨S32x40x512, .bf16⟩
  | .local _ .vmem, ⟨9, _⟩ => ⟨S2x512x1024, .bf16⟩
  | .local _ .vmem, ⟨10, _⟩ => ⟨S2x1024x512, .bf16⟩
  | .local _ .vmem, ⟨11, _⟩ => ⟨S512x512, .bf16⟩
  | _, _ => ⟨S512x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32_28 : BitVec 32 := 0#32
  let c31_i32 : BitVec 32 := 31#32
  let v104 : BitVec 32 := Scalar.addi c0_i32_28 c31_i32
  let c1_i32_29 : BitVec 32 := 1#32
  ⟨c0_i32_28, v104, c1_i32_29⟩
def k0_dev1 (d0 : Dev nD) (k0_t1 : Fin k0_t1_loop.trips) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v300 : BitVec 32 := Scalar.addi v2 c1_i32_274
  let c0_i32_28 : BitVec 32 := 0#32
  let c1_i32_29 : BitVec 32 := 1#32
  let arg16 : BitVec 32 := Scf.iv c0_i32_28 c1_i32_29 k0_t1
  let v301 : BitVec 32 := Scalar.addi v300 arg16
  let c32_i32_275 : BitVec 32 := 32#32
  let v302 : BitVec 32 := Scalar.remsi v301 c32_i32_275
  let c1_i32_277 : BitVec 32 := 1#32
  let v303 : BitVec 32 := Scalar.muli v302 c1_i32_277
  let v304 : BitVec 32 := Scalar.addi c0_i32_278 v303
  v304.toNat
@[reducible] def k0_t2_loop : Scf.Loop 32 :=
  let c0_i32_43 : BitVec 32 := 0#32
  let c8_i32 : BitVec 32 := 8#32
  let v117 : BitVec 32 := Scalar.addi c0_i32_43 c8_i32
  let c1_i32_44 : BitVec 32 := 1#32
  ⟨c0_i32_43, v117, c1_i32_44⟩
def k0_off1 (k0_t2 : Fin k0_t2_loop.trips) : Fin 1 → Nat :=
  let c0_i32_43 : BitVec 32 := 0#32
  let c1_i32_44 : BitVec 32 := 1#32
  let arg16 : BitVec 32 := Scf.iv c0_i32_43 c1_i32_44 k0_t2
  ![arg16.toNat]
def k0_off2 (k0_t2 : Fin k0_t2_loop.trips) : Fin 3 → Nat :=
  let c0_i32_43 : BitVec 32 := 0#32
  let c1_i32_44 : BitVec 32 := 1#32
  let arg16 : BitVec 32 := Scf.iv c0_i32_43 c1_i32_44 k0_t2
  let c0_i32_278 : BitVec 32 := 0#32
  let c0_i32_279 : BitVec 32 := 0#32
  ![arg16.toNat, 0, 0]
def k0_dev2 (d0 : Dev nD) (k0_t2 : Fin k0_t2_loop.trips) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v300 : BitVec 32 := Scalar.addi v2 c1_i32_274
  let c0_i32_43 : BitVec 32 := 0#32
  let c1_i32_44 : BitVec 32 := 1#32
  let arg16 : BitVec 32 := Scf.iv c0_i32_43 c1_i32_44 k0_t2
  let v301 : BitVec 32 := Scalar.addi v300 arg16
  let c32_i32_275 : BitVec 32 := 32#32
  let v302 : BitVec 32 := Scalar.remsi v301 c32_i32_275
  let c1_i32_276 : BitVec 32 := 1#32
  let v303 : BitVec 32 := Scalar.muli v302 c1_i32_276
  let v304 : BitVec 32 := Scalar.addi c0_i32_277 v303
  v304.toNat
@[reducible] def k0_t3_loop : Scf.Loop 32 :=
  let c0_i32_46 : BitVec 32 := 0#32
  let c8_i32_47 : BitVec 32 := 8#32
  let v118 : BitVec 32 := Scalar.addi c0_i32_46 c8_i32_47
  let c1_i32_48 : BitVec 32 := 1#32
  ⟨c0_i32_46, v118, c1_i32_48⟩
def k0_off3 (k0_t3 : Fin k0_t3_loop.trips) : Fin 1 → Nat :=
  let c0_i32_46 : BitVec 32 := 0#32
  let c1_i32_48 : BitVec 32 := 1#32
  let arg16 : BitVec 32 := Scf.iv c0_i32_46 c1_i32_48 k0_t3
  ![arg16.toNat]
def k0_off4 (k0_t3 : Fin k0_t3_loop.trips) : Fin 3 → Nat :=
  let c0_i32_46 : BitVec 32 := 0#32
  let c1_i32_48 : BitVec 32 := 1#32
  let arg16 : BitVec 32 := Scf.iv c0_i32_46 c1_i32_48 k0_t3
  let c0_i32_275 : BitVec 32 := 0#32
  let c0_i32_276 : BitVec 32 := 0#32
  ![arg16.toNat, 0, 0]
@[reducible] def k0_t4_loop : Scf.Loop 32 :=
  let c8_i32_50 : BitVec 32 := 8#32
  let c8_i32_51 : BitVec 32 := 8#32
  let v119 : BitVec 32 := Scalar.addi c8_i32_50 c8_i32_51
  let c1_i32_52 : BitVec 32 := 1#32
  ⟨c8_i32_50, v119, c1_i32_52⟩
def k0_off5 (k0_t4 : Fin k0_t4_loop.trips) : Fin 1 → Nat :=
  let c8_i32_50 : BitVec 32 := 8#32
  let c1_i32_52 : BitVec 32 := 1#32
  let arg16 : BitVec 32 := Scf.iv c8_i32_50 c1_i32_52 k0_t4
  ![arg16.toNat]
def k0_off6 (k0_t4 : Fin k0_t4_loop.trips) : Fin 3 → Nat :=
  let c8_i32_50 : BitVec 32 := 8#32
  let c1_i32_52 : BitVec 32 := 1#32
  let arg16 : BitVec 32 := Scf.iv c8_i32_50 c1_i32_52 k0_t4
  let c0_i32_278 : BitVec 32 := 0#32
  let c0_i32_279 : BitVec 32 := 0#32
  ![arg16.toNat, 0, 0]
def k0_dev3 (d0 : Dev nD) (k0_t4 : Fin k0_t4_loop.trips) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v300 : BitVec 32 := Scalar.addi v2 c1_i32_274
  let c8_i32_50 : BitVec 32 := 8#32
  let c1_i32_52 : BitVec 32 := 1#32
  let arg16 : BitVec 32 := Scf.iv c8_i32_50 c1_i32_52 k0_t4
  let v301 : BitVec 32 := Scalar.addi v300 arg16
  let c32_i32_275 : BitVec 32 := 32#32
  let v302 : BitVec 32 := Scalar.remsi v301 c32_i32_275
  let c1_i32_276 : BitVec 32 := 1#32
  let v303 : BitVec 32 := Scalar.muli v302 c1_i32_276
  let v304 : BitVec 32 := Scalar.addi c0_i32_277 v303
  v304.toNat
@[reducible] def k0_t5_loop : Scf.Loop 32 :=
  let c8_i32_54 : BitVec 32 := 8#32
  let c8_i32_55 : BitVec 32 := 8#32
  let v120 : BitVec 32 := Scalar.addi c8_i32_54 c8_i32_55
  let c1_i32_56 : BitVec 32 := 1#32
  ⟨c8_i32_54, v120, c1_i32_56⟩
def k0_off7 (k0_t5 : Fin k0_t5_loop.trips) : Fin 1 → Nat :=
  let c8_i32_54 : BitVec 32 := 8#32
  let c1_i32_56 : BitVec 32 := 1#32
  let arg16 : BitVec 32 := Scf.iv c8_i32_54 c1_i32_56 k0_t5
  ![arg16.toNat]
def k0_off8 (k0_t5 : Fin k0_t5_loop.trips) : Fin 3 → Nat :=
  let c8_i32_54 : BitVec 32 := 8#32
  let c1_i32_56 : BitVec 32 := 1#32
  let arg16 : BitVec 32 := Scf.iv c8_i32_54 c1_i32_56 k0_t5
  let c0_i32_275 : BitVec 32 := 0#32
  let c0_i32_276 : BitVec 32 := 0#32
  ![arg16.toNat, 0, 0]
@[reducible] def k0_t6_loop : Scf.Loop 32 :=
  let c16_i32 : BitVec 32 := 16#32
  let c8_i32_58 : BitVec 32 := 8#32
  let v121 : BitVec 32 := Scalar.addi c16_i32 c8_i32_58
  let c1_i32_59 : BitVec 32 := 1#32
  ⟨c16_i32, v121, c1_i32_59⟩
def k0_off9 (k0_t6 : Fin k0_t6_loop.trips) : Fin 1 → Nat :=
  let c16_i32 : BitVec 32 := 16#32
  let c1_i32_59 : BitVec 32 := 1#32
  let arg16 : BitVec 32 := Scf.iv c16_i32 c1_i32_59 k0_t6
  ![arg16.toNat]
def k0_off10 (k0_t6 : Fin k0_t6_loop.trips) : Fin 3 → Nat :=
  let c16_i32 : BitVec 32 := 16#32
  let c1_i32_59 : BitVec 32 := 1#32
  let arg16 : BitVec 32 := Scf.iv c16_i32 c1_i32_59 k0_t6
  let c0_i32_278 : BitVec 32 := 0#32
  let c0_i32_279 : BitVec 32 := 0#32
  ![arg16.toNat, 0, 0]
def k0_dev4 (d0 : Dev nD) (k0_t6 : Fin k0_t6_loop.trips) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v300 : BitVec 32 := Scalar.addi v2 c1_i32_274
  let c16_i32 : BitVec 32 := 16#32
  let c1_i32_59 : BitVec 32 := 1#32
  let arg16 : BitVec 32 := Scf.iv c16_i32 c1_i32_59 k0_t6
  let v301 : BitVec 32 := Scalar.addi v300 arg16
  let c32_i32_275 : BitVec 32 := 32#32
  let v302 : BitVec 32 := Scalar.remsi v301 c32_i32_275
  let c1_i32_276 : BitVec 32 := 1#32
  let v303 : BitVec 32 := Scalar.muli v302 c1_i32_276
  let v304 : BitVec 32 := Scalar.addi c0_i32_277 v303
  v304.toNat
@[reducible] def k0_t7_loop : Scf.Loop 32 :=
  let c16_i32_61 : BitVec 32 := 16#32
  let c8_i32_62 : BitVec 32 := 8#32
  let v122 : BitVec 32 := Scalar.addi c16_i32_61 c8_i32_62
  let c1_i32_63 : BitVec 32 := 1#32
  ⟨c16_i32_61, v122, c1_i32_63⟩
def k0_off11 (k0_t7 : Fin k0_t7_loop.trips) : Fin 1 → Nat :=
  let c16_i32_61 : BitVec 32 := 16#32
  let c1_i32_63 : BitVec 32 := 1#32
  let arg16 : BitVec 32 := Scf.iv c16_i32_61 c1_i32_63 k0_t7
  ![arg16.toNat]
def k0_off12 (k0_t7 : Fin k0_t7_loop.trips) : Fin 3 → Nat :=
  let c16_i32_61 : BitVec 32 := 16#32
  let c1_i32_63 : BitVec 32 := 1#32
  let arg16 : BitVec 32 := Scf.iv c16_i32_61 c1_i32_63 k0_t7
  let c0_i32_275 : BitVec 32 := 0#32
  let c0_i32_276 : BitVec 32 := 0#32
  ![arg16.toNat, 0, 0]
@[reducible] def k0_t8_loop : Scf.Loop 32 :=
  let c24_i32 : BitVec 32 := 24#32
  let c7_i32 : BitVec 32 := 7#32
  let v123 : BitVec 32 := Scalar.addi c24_i32 c7_i32
  let c1_i32_65 : BitVec 32 := 1#32
  ⟨c24_i32, v123, c1_i32_65⟩
def k0_off13 (k0_t8 : Fin k0_t8_loop.trips) : Fin 1 → Nat :=
  let c24_i32 : BitVec 32 := 24#32
  let c1_i32_65 : BitVec 32 := 1#32
  let arg16 : BitVec 32 := Scf.iv c24_i32 c1_i32_65 k0_t8
  ![arg16.toNat]
def k0_off14 (k0_t8 : Fin k0_t8_loop.trips) : Fin 3 → Nat :=
  let c24_i32 : BitVec 32 := 24#32
  let c1_i32_65 : BitVec 32 := 1#32
  let arg16 : BitVec 32 := Scf.iv c24_i32 c1_i32_65 k0_t8
  let c0_i32_278 : BitVec 32 := 0#32
  let c0_i32_279 : BitVec 32 := 0#32
  ![arg16.toNat, 0, 0]
def k0_dev5 (d0 : Dev nD) (k0_t8 : Fin k0_t8_loop.trips) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v300 : BitVec 32 := Scalar.addi v2 c1_i32_274
  let c24_i32 : BitVec 32 := 24#32
  let c1_i32_65 : BitVec 32 := 1#32
  let arg16 : BitVec 32 := Scf.iv c24_i32 c1_i32_65 k0_t8
  let v301 : BitVec 32 := Scalar.addi v300 arg16
  let c32_i32_275 : BitVec 32 := 32#32
  let v302 : BitVec 32 := Scalar.remsi v301 c32_i32_275
  let c1_i32_276 : BitVec 32 := 1#32
  let v303 : BitVec 32 := Scalar.muli v302 c1_i32_276
  let v304 : BitVec 32 := Scalar.addi c0_i32_277 v303
  v304.toNat
@[reducible] def k0_t9_loop : Scf.Loop 32 :=
  let c24_i32_67 : BitVec 32 := 24#32
  let c7_i32_68 : BitVec 32 := 7#32
  let v124 : BitVec 32 := Scalar.addi c24_i32_67 c7_i32_68
  let c1_i32_69 : BitVec 32 := 1#32
  ⟨c24_i32_67, v124, c1_i32_69⟩
def k0_off15 (k0_t9 : Fin k0_t9_loop.trips) : Fin 1 → Nat :=
  let c24_i32_67 : BitVec 32 := 24#32
  let c1_i32_69 : BitVec 32 := 1#32
  let arg16 : BitVec 32 := Scf.iv c24_i32_67 c1_i32_69 k0_t9
  ![arg16.toNat]
def k0_off16 (k0_t9 : Fin k0_t9_loop.trips) : Fin 3 → Nat :=
  let c24_i32_67 : BitVec 32 := 24#32
  let c1_i32_69 : BitVec 32 := 1#32
  let arg16 : BitVec 32 := Scf.iv c24_i32_67 c1_i32_69 k0_t9
  let c0_i32_275 : BitVec 32 := 0#32
  let c0_i32_276 : BitVec 32 := 0#32
  ![arg16.toNat, 0, 0]
@[reducible] def k0_t10_loop : Scf.Loop 32 :=
  let c0_i32_71 : BitVec 32 := 0#32
  let c8_i32_72 : BitVec 32 := 8#32
  let v125 : BitVec 32 := Scalar.addi c0_i32_71 c8_i32_72
  let c1_i32_73 : BitVec 32 := 1#32
  ⟨c0_i32_71, v125, c1_i32_73⟩
def k0_off17 (k0_t10 : Fin k0_t10_loop.trips) : Fin 1 → Nat :=
  let c0_i32_71 : BitVec 32 := 0#32
  let c1_i32_73 : BitVec 32 := 1#32
  let arg16 : BitVec 32 := Scf.iv c0_i32_71 c1_i32_73 k0_t10
  ![arg16.toNat]
def k0_off18 (k0_t10 : Fin k0_t10_loop.trips) : Fin 3 → Nat :=
  let c0_i32_71 : BitVec 32 := 0#32
  let c1_i32_73 : BitVec 32 := 1#32
  let arg16 : BitVec 32 := Scf.iv c0_i32_71 c1_i32_73 k0_t10
  let c0_i32_276 : BitVec 32 := 0#32
  let c0_i32_277 : BitVec 32 := 0#32
  ![arg16.toNat, 0, 0]
@[reducible] def k0_t11_loop : Scf.Loop 32 :=
  let c0_i32_103 : BitVec 32 := 0#32
  let c8_i32_104 : BitVec 32 := 8#32
  let v158 : BitVec 32 := Scalar.addi c0_i32_103 c8_i32_104
  let c1_i32_105 : BitVec 32 := 1#32
  ⟨c0_i32_103, v158, c1_i32_105⟩
def k0_off19 (k0_t11 : Fin k0_t11_loop.trips) : Fin 1 → Nat :=
  let c0_i32_103 : BitVec 32 := 0#32
  let c1_i32_105 : BitVec 32 := 1#32
  let arg16 : BitVec 32 := Scf.iv c0_i32_103 c1_i32_105 k0_t11
  ![arg16.toNat]
def k0_off20 (k0_t11 : Fin k0_t11_loop.trips) : Fin 3 → Nat :=
  let c0_i32_103 : BitVec 32 := 0#32
  let c1_i32_105 : BitVec 32 := 1#32
  let arg16 : BitVec 32 := Scf.iv c0_i32_103 c1_i32_105 k0_t11
  let c0_i32_279 : BitVec 32 := 0#32
  let c0_i32_280 : BitVec 32 := 0#32
  ![arg16.toNat, 0, 0]
def k0_dev6 (d0 : Dev nD) (k0_t11 : Fin k0_t11_loop.trips) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_274 : BitVec 32 := 32#32
  let v300 : BitVec 32 := Scalar.addi v2 c32_i32_274
  let c1_i32_275 : BitVec 32 := 1#32
  let v301 : BitVec 32 := Scalar.subi v300 c1_i32_275
  let c0_i32_103 : BitVec 32 := 0#32
  let c1_i32_105 : BitVec 32 := 1#32
  let arg16 : BitVec 32 := Scf.iv c0_i32_103 c1_i32_105 k0_t11
  let v302 : BitVec 32 := Scalar.subi v301 arg16
  let c32_i32_276 : BitVec 32 := 32#32
  let v303 : BitVec 32 := Scalar.remsi v302 c32_i32_276
  let c1_i32_277 : BitVec 32 := 1#32
  let v304 : BitVec 32 := Scalar.muli v303 c1_i32_277
  let v305 : BitVec 32 := Scalar.addi c0_i32_278 v304
  v305.toNat
@[reducible] def k0_t12_loop : Scf.Loop 32 :=
  let c8_i32_107 : BitVec 32 := 8#32
  let c8_i32_108 : BitVec 32 := 8#32
  let v159 : BitVec 32 := Scalar.addi c8_i32_107 c8_i32_108
  let c1_i32_109 : BitVec 32 := 1#32
  ⟨c8_i32_107, v159, c1_i32_109⟩
def k0_off21 (k0_t12 : Fin k0_t12_loop.trips) : Fin 1 → Nat :=
  let c8_i32_107 : BitVec 32 := 8#32
  let c1_i32_109 : BitVec 32 := 1#32
  let arg16 : BitVec 32 := Scf.iv c8_i32_107 c1_i32_109 k0_t12
  ![arg16.toNat]
def k0_off22 (k0_t12 : Fin k0_t12_loop.trips) : Fin 3 → Nat :=
  let c8_i32_107 : BitVec 32 := 8#32
  let c1_i32_109 : BitVec 32 := 1#32
  let arg16 : BitVec 32 := Scf.iv c8_i32_107 c1_i32_109 k0_t12
  let c0_i32_276 : BitVec 32 := 0#32
  let c0_i32_277 : BitVec 32 := 0#32
  ![arg16.toNat, 0, 0]
@[reducible] def k0_t13_loop : Scf.Loop 32 :=
  let c8_i32_140 : BitVec 32 := 8#32
  let c8_i32_141 : BitVec 32 := 8#32
  let v192 : BitVec 32 := Scalar.addi c8_i32_140 c8_i32_141
  let c1_i32_142 : BitVec 32 := 1#32
  ⟨c8_i32_140, v192, c1_i32_142⟩
def k0_off23 (k0_t13 : Fin k0_t13_loop.trips) : Fin 1 → Nat :=
  let c8_i32_140 : BitVec 32 := 8#32
  let c1_i32_142 : BitVec 32 := 1#32
  let arg16 : BitVec 32 := Scf.iv c8_i32_140 c1_i32_142 k0_t13
  ![arg16.toNat]
def k0_off24 (k0_t13 : Fin k0_t13_loop.trips) : Fin 3 → Nat :=
  let c8_i32_140 : BitVec 32 := 8#32
  let c1_i32_142 : BitVec 32 := 1#32
  let arg16 : BitVec 32 := Scf.iv c8_i32_140 c1_i32_142 k0_t13
  let c0_i32_279 : BitVec 32 := 0#32
  let c0_i32_280 : BitVec 32 := 0#32
  ![arg16.toNat, 0, 0]
def k0_dev7 (d0 : Dev nD) (k0_t13 : Fin k0_t13_loop.trips) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_274 : BitVec 32 := 32#32
  let v300 : BitVec 32 := Scalar.addi v2 c32_i32_274
  let c1_i32_275 : BitVec 32 := 1#32
  let v301 : BitVec 32 := Scalar.subi v300 c1_i32_275
  let c8_i32_140 : BitVec 32 := 8#32
  let c1_i32_142 : BitVec 32 := 1#32
  let arg16 : BitVec 32 := Scf.iv c8_i32_140 c1_i32_142 k0_t13
  let v302 : BitVec 32 := Scalar.subi v301 arg16
  let c32_i32_276 : BitVec 32 := 32#32
  let v303 : BitVec 32 := Scalar.remsi v302 c32_i32_276
  let c1_i32_277 : BitVec 32 := 1#32
  let v304 : BitVec 32 := Scalar.muli v303 c1_i32_277
  let v305 : BitVec 32 := Scalar.addi c0_i32_278 v304
  v305.toNat
@[reducible] def k0_t14_loop : Scf.Loop 32 :=
  let c16_i32_144 : BitVec 32 := 16#32
  let c8_i32_145 : BitVec 32 := 8#32
  let v193 : BitVec 32 := Scalar.addi c16_i32_144 c8_i32_145
  let c1_i32_146 : BitVec 32 := 1#32
  ⟨c16_i32_144, v193, c1_i32_146⟩
def k0_off25 (k0_t14 : Fin k0_t14_loop.trips) : Fin 1 → Nat :=
  let c16_i32_144 : BitVec 32 := 16#32
  let c1_i32_146 : BitVec 32 := 1#32
  let arg16 : BitVec 32 := Scf.iv c16_i32_144 c1_i32_146 k0_t14
  ![arg16.toNat]
def k0_off26 (k0_t14 : Fin k0_t14_loop.trips) : Fin 3 → Nat :=
  let c16_i32_144 : BitVec 32 := 16#32
  let c1_i32_146 : BitVec 32 := 1#32
  let arg16 : BitVec 32 := Scf.iv c16_i32_144 c1_i32_146 k0_t14
  let c0_i32_276 : BitVec 32 := 0#32
  let c0_i32_277 : BitVec 32 := 0#32
  ![arg16.toNat, 0, 0]
@[reducible] def k0_t15_loop : Scf.Loop 32 :=
  let c16_i32_177 : BitVec 32 := 16#32
  let c8_i32_178 : BitVec 32 := 8#32
  let v226 : BitVec 32 := Scalar.addi c16_i32_177 c8_i32_178
  let c1_i32_179 : BitVec 32 := 1#32
  ⟨c16_i32_177, v226, c1_i32_179⟩
def k0_off27 (k0_t15 : Fin k0_t15_loop.trips) : Fin 1 → Nat :=
  let c16_i32_177 : BitVec 32 := 16#32
  let c1_i32_179 : BitVec 32 := 1#32
  let arg16 : BitVec 32 := Scf.iv c16_i32_177 c1_i32_179 k0_t15
  ![arg16.toNat]
def k0_off28 (k0_t15 : Fin k0_t15_loop.trips) : Fin 3 → Nat :=
  let c16_i32_177 : BitVec 32 := 16#32
  let c1_i32_179 : BitVec 32 := 1#32
  let arg16 : BitVec 32 := Scf.iv c16_i32_177 c1_i32_179 k0_t15
  let c0_i32_279 : BitVec 32 := 0#32
  let c0_i32_280 : BitVec 32 := 0#32
  ![arg16.toNat, 0, 0]
def k0_dev8 (d0 : Dev nD) (k0_t15 : Fin k0_t15_loop.trips) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_274 : BitVec 32 := 32#32
  let v300 : BitVec 32 := Scalar.addi v2 c32_i32_274
  let c1_i32_275 : BitVec 32 := 1#32
  let v301 : BitVec 32 := Scalar.subi v300 c1_i32_275
  let c16_i32_177 : BitVec 32 := 16#32
  let c1_i32_179 : BitVec 32 := 1#32
  let arg16 : BitVec 32 := Scf.iv c16_i32_177 c1_i32_179 k0_t15
  let v302 : BitVec 32 := Scalar.subi v301 arg16
  let c32_i32_276 : BitVec 32 := 32#32
  let v303 : BitVec 32 := Scalar.remsi v302 c32_i32_276
  let c1_i32_277 : BitVec 32 := 1#32
  let v304 : BitVec 32 := Scalar.muli v303 c1_i32_277
  let v305 : BitVec 32 := Scalar.addi c0_i32_278 v304
  v305.toNat
@[reducible] def k0_t16_loop : Scf.Loop 32 :=
  let c24_i32_181 : BitVec 32 := 24#32
  let c7_i32_182 : BitVec 32 := 7#32
  let v227 : BitVec 32 := Scalar.addi c24_i32_181 c7_i32_182
  let c1_i32_183 : BitVec 32 := 1#32
  ⟨c24_i32_181, v227, c1_i32_183⟩
def k0_off29 (k0_t16 : Fin k0_t16_loop.trips) : Fin 1 → Nat :=
  let c24_i32_181 : BitVec 32 := 24#32
  let c1_i32_183 : BitVec 32 := 1#32
  let arg16 : BitVec 32 := Scf.iv c24_i32_181 c1_i32_183 k0_t16
  ![arg16.toNat]
def k0_off30 (k0_t16 : Fin k0_t16_loop.trips) : Fin 3 → Nat :=
  let c24_i32_181 : BitVec 32 := 24#32
  let c1_i32_183 : BitVec 32 := 1#32
  let arg16 : BitVec 32 := Scf.iv c24_i32_181 c1_i32_183 k0_t16
  let c0_i32_276 : BitVec 32 := 0#32
  let c0_i32_277 : BitVec 32 := 0#32
  ![arg16.toNat, 0, 0]
@[reducible] def k0_t17_loop : Scf.Loop 32 :=
  let c24_i32_220 : BitVec 32 := 24#32
  let c7_i32_221 : BitVec 32 := 7#32
  let v265 : BitVec 32 := Scalar.addi c24_i32_220 c7_i32_221
  let c1_i32_222 : BitVec 32 := 1#32
  ⟨c24_i32_220, v265, c1_i32_222⟩
def k0_off31 (k0_t17 : Fin k0_t17_loop.trips) : Fin 1 → Nat :=
  let c24_i32_220 : BitVec 32 := 24#32
  let c1_i32_222 : BitVec 32 := 1#32
  let arg16 : BitVec 32 := Scf.iv c24_i32_220 c1_i32_222 k0_t17
  ![arg16.toNat]
def k0_off32 (k0_t17 : Fin k0_t17_loop.trips) : Fin 3 → Nat :=
  let c24_i32_220 : BitVec 32 := 24#32
  let c1_i32_222 : BitVec 32 := 1#32
  let arg16 : BitVec 32 := Scf.iv c24_i32_220 c1_i32_222 k0_t17
  let c0_i32_279 : BitVec 32 := 0#32
  let c0_i32_280 : BitVec 32 := 0#32
  ![arg16.toNat, 0, 0]
def k0_dev9 (d0 : Dev nD) (k0_t17 : Fin k0_t17_loop.trips) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_274 : BitVec 32 := 32#32
  let v300 : BitVec 32 := Scalar.addi v2 c32_i32_274
  let c1_i32_275 : BitVec 32 := 1#32
  let v301 : BitVec 32 := Scalar.subi v300 c1_i32_275
  let c24_i32_220 : BitVec 32 := 24#32
  let c1_i32_222 : BitVec 32 := 1#32
  let arg16 : BitVec 32 := Scf.iv c24_i32_220 c1_i32_222 k0_t17
  let v302 : BitVec 32 := Scalar.subi v301 arg16
  let c32_i32_276 : BitVec 32 := 32#32
  let v303 : BitVec 32 := Scalar.remsi v302 c32_i32_276
  let c1_i32_277 : BitVec 32 := 1#32
  let v304 : BitVec 32 := Scalar.muli v303 c1_i32_277
  let v305 : BitVec 32 := Scalar.addi c0_i32_278 v304
  v305.toNat
@[reducible] def k0_t18_loop : Scf.Loop 32 :=
  let c0_i32_224 : BitVec 32 := 0#32
  let c8_i32_225 : BitVec 32 := 8#32
  let v266 : BitVec 32 := Scalar.addi c0_i32_224 c8_i32_225
  let c1_i32_226 : BitVec 32 := 1#32
  ⟨c0_i32_224, v266, c1_i32_226⟩
def k0_off33 (k0_t18 : Fin k0_t18_loop.trips) : Fin 1 → Nat :=
  let c0_i32_224 : BitVec 32 := 0#32
  let c1_i32_226 : BitVec 32 := 1#32
  let arg16 : BitVec 32 := Scf.iv c0_i32_224 c1_i32_226 k0_t18
  ![arg16.toNat]
def k0_off34 (k0_t18 : Fin k0_t18_loop.trips) : Fin 3 → Nat :=
  let c0_i32_224 : BitVec 32 := 0#32
  let c1_i32_226 : BitVec 32 := 1#32
  let arg16 : BitVec 32 := Scf.iv c0_i32_224 c1_i32_226 k0_t18
  let c0_i32_276 : BitVec 32 := 0#32
  let c0_i32_277 : BitVec 32 := 0#32
  ![arg16.toNat, 0, 0]
@[reducible] def k0_t19_loop : Scf.Loop 32 :=
  let c8_i32_234 : BitVec 32 := 8#32
  let c8_i32_235 : BitVec 32 := 8#32
  let v272 : BitVec 32 := Scalar.addi c8_i32_234 c8_i32_235
  let c1_i32_236 : BitVec 32 := 1#32
  ⟨c8_i32_234, v272, c1_i32_236⟩
def k0_off35 (k0_t19 : Fin k0_t19_loop.trips) : Fin 1 → Nat :=
  let c8_i32_234 : BitVec 32 := 8#32
  let c1_i32_236 : BitVec 32 := 1#32
  let arg16 : BitVec 32 := Scf.iv c8_i32_234 c1_i32_236 k0_t19
  ![arg16.toNat]
def k0_off36 (k0_t19 : Fin k0_t19_loop.trips) : Fin 3 → Nat :=
  let c8_i32_234 : BitVec 32 := 8#32
  let c1_i32_236 : BitVec 32 := 1#32
  let arg16 : BitVec 32 := Scf.iv c8_i32_234 c1_i32_236 k0_t19
  let c0_i32_276 : BitVec 32 := 0#32
  let c0_i32_277 : BitVec 32 := 0#32
  ![arg16.toNat, 0, 0]
@[reducible] def k0_t20_loop : Scf.Loop 32 :=
  let c16_i32_246 : BitVec 32 := 16#32
  let c8_i32_247 : BitVec 32 := 8#32
  let v281 : BitVec 32 := Scalar.addi c16_i32_246 c8_i32_247
  let c1_i32_248 : BitVec 32 := 1#32
  ⟨c16_i32_246, v281, c1_i32_248⟩
def k0_off37 (k0_t20 : Fin k0_t20_loop.trips) : Fin 1 → Nat :=
  let c16_i32_246 : BitVec 32 := 16#32
  let c1_i32_248 : BitVec 32 := 1#32
  let arg16 : BitVec 32 := Scf.iv c16_i32_246 c1_i32_248 k0_t20
  ![arg16.toNat]
def k0_off38 (k0_t20 : Fin k0_t20_loop.trips) : Fin 3 → Nat :=
  let c16_i32_246 : BitVec 32 := 16#32
  let c1_i32_248 : BitVec 32 := 1#32
  let arg16 : BitVec 32 := Scf.iv c16_i32_246 c1_i32_248 k0_t20
  let c0_i32_276 : BitVec 32 := 0#32
  let c0_i32_277 : BitVec 32 := 0#32
  ![arg16.toNat, 0, 0]
@[reducible] def k0_t21_loop : Scf.Loop 32 :=
  let c24_i32_258 : BitVec 32 := 24#32
  let c7_i32_259 : BitVec 32 := 7#32
  let v290 : BitVec 32 := Scalar.addi c24_i32_258 c7_i32_259
  let c1_i32_260 : BitVec 32 := 1#32
  ⟨c24_i32_258, v290, c1_i32_260⟩
def k0_off39 (k0_t21 : Fin k0_t21_loop.trips) : Fin 1 → Nat :=
  let c24_i32_258 : BitVec 32 := 24#32
  let c1_i32_260 : BitVec 32 := 1#32
  let arg16 : BitVec 32 := Scf.iv c24_i32_258 c1_i32_260 k0_t21
  ![arg16.toNat]
def k0_off40 (k0_t21 : Fin k0_t21_loop.trips) : Fin 3 → Nat :=
  let c24_i32_258 : BitVec 32 := 24#32
  let c1_i32_260 : BitVec 32 := 1#32
  let arg16 : BitVec 32 := Scf.iv c24_i32_258 c1_i32_260 k0_t21
  let c0_i32_276 : BitVec 32 := 0#32
  let c0_i32_277 : BitVec 32 := 0#32
  ![arg16.toNat, 0, 0]
@[reducible] def k0_t22_loop : Scf.Loop 32 :=
  let c0_i32_270 : BitVec 32 := 0#32
  let c31_i32_271 : BitVec 32 := 31#32
  let v299 : BitVec 32 := Scalar.addi c0_i32_270 c31_i32_271
  let c1_i32_272 : BitVec 32 := 1#32
  ⟨c0_i32_270, v299, c1_i32_272⟩
def k0_off41 (k0_t22 : Fin k0_t22_loop.trips) : Fin 1 → Nat :=
  let c0_i32_270 : BitVec 32 := 0#32
  let c1_i32_272 : BitVec 32 := 1#32
  let arg16 : BitVec 32 := Scf.iv c0_i32_270 c1_i32_272 k0_t22
  ![arg16.toNat]
def k0_off42 (k0_t22 : Fin k0_t22_loop.trips) : Fin 3 → Nat :=
  let c0_i32_270 : BitVec 32 := 0#32
  let c1_i32_272 : BitVec 32 := 1#32
  let arg16 : BitVec 32 := Scf.iv c0_i32_270 c1_i32_272 k0_t22
  let c0_i32_275 : BitVec 32 := 0#32
  let c0_i32_276 : BitVec 32 := 0#32
  ![arg16.toNat, 0, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x512 : Shape := ⟨2, ![16384, 512]⟩
abbrev S16384 : Shape := ⟨1, ![16384]⟩
abbrev S64x512x1024 : Shape := ⟨3, ![64, 512, 1024]⟩
abbrev S64x1024x512 : Shape := ⟨3, ![64, 1024, 512]⟩
abbrev S64x1024x16384 : Shape := ⟨3, ![64, 1024, 16384]⟩
abbrev S64x16384x1024 : Shape := ⟨3, ![64, 16384, 1024]⟩
abbrev S_ : Shape := ⟨0, ![]⟩
abbrev S64x16384x512 : Shape := ⟨3, ![64, 16384, 512]⟩
abbrev S1x16384 : Shape := ⟨2, ![1, 16384]⟩
abbrev S64 : Shape := ⟨1, ![64]⟩
abbrev S64x1 : Shape := ⟨2, ![64, 1]⟩
abbrev S64x16384 : Shape := ⟨2, ![64, 16384]⟩
abbrev S64x16384x1 : Shape := ⟨3, ![64, 16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384, .i32⟩
  | .hbm, ⟨2, _⟩ => ⟨S64x512x1024, .bf16⟩
  | .hbm, ⟨3, _⟩ => ⟨S64x1024x512, .bf16⟩
  | .hbm, ⟨4, _⟩ => ⟨S16384x512, .f32⟩
  | .hbm, ⟨5, _⟩ => ⟨S64x512x1024, .f32⟩
  | .hbm, ⟨6, _⟩ => ⟨S64x1024x16384, .f32⟩
  | .hbm, ⟨7, _⟩ => ⟨S64x16384x1024, .f32⟩
  | .hbm, ⟨8, _⟩ => ⟨S_, .f32⟩
  | .hbm, ⟨9, _⟩ => ⟨S64x16384x1024, .f32⟩
  | .hbm, ⟨10, _⟩ => ⟨S64x16384x1024, .f32⟩
  | .hbm, ⟨11, _⟩ => ⟨S64x1024x512, .f32⟩
  | .hbm, ⟨12, _⟩ => ⟨S64x16384x512, .f32⟩
  | .hbm, ⟨13, _⟩ => ⟨S1x16384, .i32⟩
  | .hbm, ⟨14, _⟩ => ⟨S64, .i32⟩
  | .hbm, ⟨15, _⟩ => ⟨S64x1, .i32⟩
  | .hbm, ⟨16, _⟩ => ⟨S64x16384, .i32⟩
  | .hbm, ⟨17, _⟩ => ⟨S64x16384, .i32⟩
  | .hbm, ⟨18, _⟩ => ⟨S64x16384, .i1⟩
  | .hbm, ⟨19, _⟩ => ⟨S64x16384x1, .i1⟩
  | .hbm, ⟨20, _⟩ => ⟨S_, .f32⟩
  | .hbm, ⟨21, _⟩ => ⟨S_, .f32⟩
  | .hbm, ⟨22, _⟩ => ⟨S64x16384x512, .i1⟩
  | .hbm, ⟨23, _⟩ => ⟨S64x16384x512, .f32⟩
  | .hbm, ⟨24, _⟩ => ⟨S64x16384x512, .f32⟩
  | .hbm, ⟨25, _⟩ => ⟨S_, .f32⟩
  | .hbm, ⟨26, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Wires.lean ====
/-
The geometry of the exchange: which device a slot goes to and comes from, the semaphore of each slot,
and the slots of the four exchange buffers as sets of elements.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Tactic

@[expose] public section

noncomputable section

namespace Cert.Exchange

open Cert.KernelIdeal Cert.KernelIdeal.Gen
open Idealize.ShloMosaic Idealize.ShloMosaic.TcCoe

/-! ## The ring of devices -/

set_option backward.proofsInPublic true in
/-- The device slot `k` of `c` is sent to on the way out. -/
def dn (c : Dev nD) (k : ℕ) : Dev nD := ⟨(c.val + k + 1) % 32, Nat.mod_lt _ (by decide)⟩
set_option backward.proofsInPublic true in
/-- The device whose slot `k` arrives at `c`, and to which `c` returns it. -/
def up (c : Dev nD) (k : ℕ) : Dev nD := ⟨(c.val + (31 + 31 * k)) % 32, Nat.mod_lt _ (by decide)⟩

theorem dev_lt (c : Dev nD) : c.val < 32 := c.isLt

theorem up_dn (c : Dev nD) (k : ℕ) : up (dn c k) k = c := by
  have := dev_lt c
  refine Fin.ext ?_; simp only [up, dn]; omega
theorem dn_up (c : Dev nD) (k : ℕ) : dn (up c k) k = c := by
  have := dev_lt c
  refine Fin.ext ?_; simp only [up, dn]; omega
theorem dn_last (c : Dev nD) : dn c 31 = c := by
  have := dev_lt c
  refine Fin.ext ?_; simp only [dn]; omega
theorem up_last (c : Dev nD) : up c 31 = c := by
  have := dev_lt c
  refine Fin.ext ?_; simp only [up]; omega
theorem up_rev (c : Dev nD) {k : ℕ} (h : k ≤ 30) : up c (30 - k) = dn c k := by
  have := dev_lt c
  refine Fin.ext ?_; simp only [up, dn]; omega
theorem dn_rev (c : Dev nD) {k : ℕ} (h : k ≤ 30) : dn c (30 - k) = up c k := by
  have := dev_lt c
  refine Fin.ext ?_; simp only [up, dn]; omega

/-- Rotation by a slot's distance, as a permutation of the devices. -/
def rot (k : ℕ) : Dev nD ≃ Dev nD := ⟨fun c => dn c k, fun c => up c k, fun c => up_dn c k, fun c => dn_up c k⟩

/-! ## The semaphores -/

abbrev barS : Sem sig := (SemArray.scalar (sig.barrier 0 rfl) : Sems sig S_).sem

set_option backward.proofsInPublic true in
/-- Slot `k`'s semaphore of array `j`: out-send, out-arrival, return-send, return-arrival. -/
def dsem (j k : ℕ) : DmaSem sig := ⟨(5 + 32 * j + k) % 133, Nat.mod_lt _ (by decide)⟩

theorem dsem_val {j k : ℕ} (hj : j < 4) (hk : k < 32) : (dsem j k).val = 5 + 32 * j + k := by
  simp only [dsem]; omega

theorem dsem_inj {j k j' k' : ℕ} (hj : j < 4) (hk : k < 32) (hj' : j' < 4) (hk' : k' < 32) (h : dsem j k = dsem j' k') :
    j = j' ∧ k = k' := by
  have := congrArg Fin.val h
  rw [dsem_val hj hk, dsem_val hj' hk'] at this
  omega

theorem sem_fs {n : ℕ} {off : Fin 1 → ℕ} (h : off = ![n]) (hn : n < 32) (inb) :
    ((cc0_scratch7.slice (Rect.unit (s := S32) off S1.size inb)).squeeze S_ squeezes_S1_S_).sem = dsem 0 n := by
  subst h; obtain ⟨n, rfl⟩ : ∃ k : Fin 32, n = k.val := ⟨⟨n, hn⟩, rfl⟩
  revert n; decide +kernel
theorem sem_fr {n : ℕ} {off : Fin 1 → ℕ} (h : off = ![n]) (hn : n < 32) (inb) :
    ((cc0_scratch8.slice (Rect.unit (s := S32) off S1.size inb)).squeeze S_ squeezes_S1_S_).sem = dsem 1 n := by
  subst h; obtain ⟨n, rfl⟩ : ∃ k : Fin 32, n = k.val := ⟨⟨n, hn⟩, rfl⟩
  revert n; decide +kernel
theorem sem_rs {n : ℕ} {off : Fin 1 → ℕ} (h : off = ![n]) (hn : n < 32) (inb) :
    ((cc0_scratch9.slice (Rect.unit (s := S32) off S1.size inb)).squeeze S_ squeezes_S1_S_).sem = dsem 2 n := by
  subst h; obtain ⟨n, rfl⟩ : ∃ k : Fin 32, n = k.val := ⟨⟨n, hn⟩, rfl⟩
  revert n; decide +kernel
theorem sem_rr {n : ℕ} {off : Fin 1 → ℕ} (h : off = ![n]) (hn : n < 32) (inb) :
    ((cc0_scratch10.slice (Rect.unit (s := S32) off S1.size inb)).squeeze S_ squeezes_S1_S_).sem = dsem 3 n := by
  subst h; obtain ⟨n, rfl⟩ : ∃ k : Fin 32, n = k.val := ⟨⟨n, hn⟩, rfl⟩
  revert n; decide +kernel

/-! ## The slots -/

/-- The elements of slot `k` of an exchange buffer. -/
def slot (k : ℕ) : Finset S32x40x512.Idx := Finset.univ.filter fun i => (i 0).val = k

theorem mem_slot {k : ℕ} {i : S32x40x512.Idx} : i ∈ slot k ↔ (i 0).val = k := by
  unfold slot; rw [Finset.mem_filter]; exact ⟨fun h => h.2, fun h => ⟨Finset.mem_univ _, h⟩⟩

/-- The elements of the slots `a ≤ k < b`. -/
def slots (a b : ℕ) : Finset S32x40x512.Idx := Finset.univ.filter fun i => a ≤ (i 0).val ∧ (i 0).val < b

theorem mem_slots {a b : ℕ} {i : S32x40x512.Idx} : i ∈ slots a b ↔ a ≤ (i 0).val ∧ (i 0).val < b := by
  unfold slots; rw [Finset.mem_filter]; exact ⟨fun h => h.2, fun h => ⟨Finset.mem_univ _, h⟩⟩

theorem slots_all : slots 0 32 = Finset.univ := by
  ext i; rw [mem_slots]; exact ⟨fun _ => Finset.mem_univ _, fun _ => ⟨Nat.zero_le _, (i 0).isLt⟩⟩

theorem slots_one (k : ℕ) : slots k (k + 1) = slot k := by
  ext i; rw [mem_slots, mem_slot]; omega

theorem slots_biUnion (a b : ℕ) : (Finset.Ico a b).biUnion slot = slots a b := by
  ext i; rw [Finset.mem_biUnion, mem_slots]
  constructor
  · rintro ⟨k, hk, hi⟩; rw [mem_slot] at hi; rw [Finset.mem_Ico] at hk; omega
  · intro h; exact ⟨(i 0).val, Finset.mem_Ico.mpr h, mem_slot.mpr rfl⟩

theorem slot_disjoint {k k' : ℕ} (h : k ≠ k') : Disjoint (slot k) (slot k') :=
  Finset.disjoint_left.mpr fun i hi hi' => h ((mem_slot.mp hi).symm.trans (mem_slot.mp hi'))

theorem rect_slot {n : ℕ} {off : Fin 3 → ℕ} (h : off = ![n, 0, 0]) (inb) :
    (Rect.unit (s := S32x40x512) off S1x40x512.size inb).set = slot n := by
  subst h
  ext i; rw [Rect.mem_set_unit, mem_slot]
  constructor
  · intro h; have h0 := h (0 : Fin 3); change n ≤ _ ∧ _ < n + 1 at h0; omega
  · intro h a
    have h1 : (i 1).val < 40 := (i 1).isLt
    have h2 : (i 2).val < 512 := (i 2).isLt
    fin_cases a
    · change n ≤ (i 0).val ∧ (i 0).val < n + 1; omega
    · change 0 ≤ (i 1).val ∧ (i 1).val < 0 + 40; omega
    · change 0 ≤ (i 2).val ∧ (i 2).val < 0 + 512; omega

/-- A rectangle of whole-width rows of the slots `a ≤ k < a + n`. -/
theorem rect_slots {a n o w : ℕ} {off size : Fin 3 → ℕ} (h : off = ![a, o, 0]) (hs : size = ![n, w, 512]) (inb) :
    (Rect.unit (s := S32x40x512) off size inb).set ⊆ slots a (a + n) := by
  subst h hs
  intro i hi
  rw [Rect.mem_set_unit] at hi
  rw [mem_slots]
  exact hi (0 : Fin 3)

/-! ## Slots as the program's views -/

abbrev sgM : Memref sig .tc .vmem S32x40x512 .bf16 := Memref.whole cc0_scratch0
abbrev rxM : Memref sig .tc .vmem S32x40x512 .bf16 := Memref.whole cc0_scratch1
abbrev ysM : Memref sig .tc .vmem S32x40x512 .bf16 := Memref.whole cc0_scratch2
abbrev ryM : Memref sig .tc .vmem S32x40x512 .bf16 := Memref.whole cc0_scratch3

/-- The slot of an exchange buffer at a printed offset, as the program names it. -/
abbrev slotM (M : Memref sig .tc .vmem S32x40x512 .bf16) (off : Fin 3 → ℕ) (inb : ∀ a, off a + S1x40x512.size a ≤ S32x40x512.size a) :
    Memref sig .tc .vmem S40x512 .bf16 :=
  (M.slice (Rect.unit (s := S32x40x512) off S1x40x512.size inb) (fun _ => rfl)).squeeze S40x512 squeezes_S1x40x512_S40x512

section Views
variable {n : ℕ} {off : Fin 3 → ℕ} (h : off = ![n, 0, 0]) (inb : ∀ a, off a + S1x40x512.size a ≤ S32x40x512.size a)
include h

theorem sgM_set : (slotM sgM off inb).view.set = slot n := by
  refine (View.set_reshape _ _).trans ((View.set_slice_whole cc0_scratch0 _).trans (rect_slot h inb))
theorem rxM_set : (slotM rxM off inb).view.set = slot n := by
  refine (View.set_reshape _ _).trans ((View.set_slice_whole cc0_scratch1 _).trans (rect_slot h inb))
theorem ysM_set : (slotM ysM off inb).view.set = slot n := by
  refine (View.set_reshape _ _).trans ((View.set_slice_whole cc0_scratch2 _).trans (rect_slot h inb))
theorem ryM_set : (slotM ryM off inb).view.set = slot n := by
  refine (View.set_reshape _ _).trans ((View.set_slice_whole cc0_scratch3 _).trans (rect_slot h inb))

variable {Val : EltTy → Type}

/-- A slot sent out lands as it was. -/
theorem out_lands (fd : rxM.view.ty.Contents Val) (fs : sgM.view.ty.Contents Val) :
    ∀ i ∈ slot n, (slotM rxM off inb).view.write Val fd ((slotM sgM off inb).view.read Val fs) Finset.univ i = fs i := by
  intro i hi
  rw [← rxM_set h inb] at hi
  obtain ⟨x, -, rfl⟩ := Finset.mem_map.mp hi
  rw [View.write_emb_of_mem _ _ (Finset.mem_univ x), View.read_apply, cast_cast, cast_eq]
  rfl

/-- A slot returned lands as it was. -/
theorem back_lands (fd : ryM.view.ty.Contents Val) (fs : ysM.view.ty.Contents Val) :
    ∀ i ∈ slot n, (slotM ryM off inb).view.write Val fd ((slotM ysM off inb).view.read Val fs) Finset.univ i = fs i := by
  intro i hi
  rw [← ryM_set h inb] at hi
  obtain ⟨x, -, rfl⟩ := Finset.mem_map.mp hi
  rw [View.write_emb_of_mem _ _ (Finset.mem_univ x), View.read_apply, cast_cast, cast_eq]
  rfl

end Views

/-- One slot's credit. -/
abbrev N : ℕ := rxM.view.ref.dmaCredit S40x512 .bf16

theorem N_pos : 0 < N := by decide

theorem credit_sg {off inb} : (slotM sgM off inb).view.dmaCredit = N := rfl
theorem credit_rx {off inb} : (slotM rxM off inb).view.dmaCredit = N := rfl
theorem credit_ys {off inb} : (slotM ysM off inb).view.dmaCredit = N := rfl
theorem credit_ry {off inb} : (slotM ryM off inb).view.dmaCredit = N := rfl

end Cert.Exchange

end
-- ==== Proof.Contents.lean ====
/-
What every buffer of the exchange holds, as plain functions of the devices' arguments.
-/
module

public import proofs.«01_k».proof.Proof.Wires
public import Idealize.ShloMosaic.Lib.Pipeline.Value

@[expose] public section

noncomputable section

namespace Cert.Exchange

open Cert.KernelIdeal Cert.KernelIdeal.Gen
open Idealize.ShloMosaic Idealize.ShloMosaic.TcCoe

variable {F : FTy → Type} [FloatOps F]

/-! ## Indices by their coordinates -/

set_option backward.proofsInPublic true in
def at3 (a b c : ℕ) : S32x40x512.Idx := fun k => match k with
  | ⟨0, _⟩ => ⟨a % 32, Nat.mod_lt _ (by decide)⟩
  | ⟨1, _⟩ => ⟨b % 40, Nat.mod_lt _ (by decide)⟩
  | ⟨2, _⟩ => ⟨c % 512, Nat.mod_lt _ (by decide)⟩

set_option backward.proofsInPublic true in
def at8 (a b c : ℕ) : S8x20x512.Idx := fun k => match k with
  | ⟨0, _⟩ => ⟨a % 8, Nat.mod_lt _ (by decide)⟩
  | ⟨1, _⟩ => ⟨b % 20, Nat.mod_lt _ (by decide)⟩
  | ⟨2, _⟩ => ⟨c % 512, Nat.mod_lt _ (by decide)⟩

set_option backward.proofsInPublic true in
def atW1 (a b c : ℕ) : S2x512x1024.Idx := fun k => match k with
  | ⟨0, _⟩ => ⟨a % 2, Nat.mod_lt _ (by decide)⟩
  | ⟨1, _⟩ => ⟨b % 512, Nat.mod_lt _ (by decide)⟩
  | ⟨2, _⟩ => ⟨c % 1024, Nat.mod_lt _ (by decide)⟩

set_option backward.proofsInPublic true in
def atW2 (a b c : ℕ) : S2x1024x512.Idx := fun k => match k with
  | ⟨0, _⟩ => ⟨a % 2, Nat.mod_lt _ (by decide)⟩
  | ⟨1, _⟩ => ⟨b % 1024, Nat.mod_lt _ (by decide)⟩
  | ⟨2, _⟩ => ⟨c % 512, Nat.mod_lt _ (by decide)⟩

section Idx
variable (a b c : ℕ)
theorem at3_0 : (at3 a b c 0).val = a % 32 := rfl
theorem at3_1 : (at3 a b c 1).val = b % 40 := rfl
theorem at3_2 : (at3 a b c 2).val = c % 512 := rfl
theorem at8_0 : (at8 a b c 0).val = a % 8 := rfl
theorem at8_1 : (at8 a b c 1).val = b % 20 := rfl
theorem at8_2 : (at8 a b c 2).val = c % 512 := rfl
theorem atW1_0 : (atW1 a b c 0).val = a % 2 := rfl
theorem atW1_1 : (atW1 a b c 1).val = b % 512 := rfl
theorem atW1_2 : (atW1 a b c 2).val = c % 1024 := rfl
theorem atW2_0 : (atW2 a b c 0).val = a % 2 := rfl
theorem atW2_1 : (atW2 a b c 1).val = b % 1024 := rfl
theorem atW2_2 : (atW2 a b c 2).val = c % 512 := rfl
end Idx

/-- Two indices of a rank-3 shape with the same coordinates are the same. -/
theorem idx3_ext {d : Fin 3 → ℕ} {i j : (⟨3, d⟩ : Shape).Idx} (h0 : (i 0).val = (j 0).val) (h1 : (i 1).val = (j 1).val)
    (h2 : (i 2).val = (j 2).val) : i = j := by
  funext k; fin_cases k
  · exact Fin.ext h0
  · exact Fin.ext h1
  · exact Fin.ext h2

/-! ## Parts of a buffer -/

/-- The half-rows `p ≤ · < p + 20` of the eight slots from `o`. -/
def half (f : Vec F S32x40x512 .bf16) (o p : ℕ) : Vec F S8x20x512 .bf16 :=
  fun x => f (at3 (o + (x 0).val) (p + (x 1).val) (x 2).val)
/-- The eight slots from `o`. -/
def band (f : Vec F S32x40x512 .bf16) (o : ℕ) : Vec F S8x40x512 .bf16 :=
  fun x => f (at3 (o + (x 0).val) (x 1).val (x 2).val)
/-- Expert `e`'s first weight. -/
def slab1 (w : Vec F S2x512x1024 .bf16) (e : ℕ) : Vec F S1x512x1024 .bf16 :=
  fun x => w (atW1 e (x 1).val (x 2).val)
/-- Expert `e`'s second weight. -/
def slab2 (w : Vec F S2x1024x512 .bf16) (e : ℕ) : Vec F S1x1024x512 .bf16 :=
  fun x => w (atW2 e (x 1).val (x 2).val)

/-! ## The arguments -/

variable (m : (ℓ : Loc nD τ sig) → Buf (Elt F) ℓ)

def X (c : Dev nD) : Vec F S512x512 .bf16 := (win0_0.blk (0 : Fin 1)).view.read (Elt F) (m ((c : Thread nD τ).loc main_arg0))
def As (c : Dev nD) : Vec F S512 .i32 := (win0_1.blk (0 : Fin 1)).view.read (Elt F) (m ((c : Thread nD τ).loc main_arg1))
def Wa (c : Dev nD) : Vec F S2x512x1024 .bf16 := (win0_2.blk (0 : Fin 1)).view.read (Elt F) (m ((c : Thread nD τ).loc main_arg2))
def Wb (c : Dev nD) : Vec F S2x1024x512 .bf16 := (win0_3.blk (0 : Fin 1)).view.read (Elt F) (m ((c : Thread nD τ).loc main_arg3))

/-! ## The computed buffers -/

/-- The device's own number, as the program forms it. -/
def myId (c : Dev nD) : BitVec 32 := Scalar.remsi (Scalar.divsi (Dev.word c) 1#32) 32#32

def rank (c : Dev nD) : FVec F S512x1 .f32 := k0_pay10 (k0_pay8 (As m c)) (k0_pay9 (As m c))
/-- The outgoing slots. -/
def SG (c : Dev nD) : Vec F S32x40x512 .bf16 :=
  k0_pay16 (k0_pay6 (As m c)) (rank m c) k0_pay11 (k0_pay12 (myId c)) k0_pay13 (k0_pay3 (X m c))
/-- The combining product's matrix. -/
def PA (c : Dev nD) : FVec F S512x1280 .bf16 :=
  k0_pay15 (k0_pay6 (As m c)) k0_pay7 (rank m c) k0_pay11 (k0_pay12 (myId c)) k0_pay13
/-- The slots received: slot `k` is the one `up c k` sent. -/
def RX (c : Dev nD) : Vec F S32x40x512 .bf16 := fun i => SG m (up c (i 0).val) i
/-- The computed slots: the eight slots and the expert an element belongs to, taken through the two products together. -/
def YS (c : Dev nD) : Vec F S32x40x512 .bf16 := fun i =>
  k0_pay20 (half (RX m c) (8 * ((i 0).val / 8)) (20 * ((i 1).val / 20)))
    (slab1 (k0_pay4 (Wa m c)) ((i 1).val / 20)) (slab2 (k0_pay5 (Wb m c)) ((i 1).val / 20))
    (at8 (i 0).val (i 1).val (i 2).val)
/-- The slots returned: slot `k` is the one `dn c k` computed. -/
def RY (c : Dev nD) : Vec F S32x40x512 .bf16 := fun i => YS m (dn c (i 0).val) i
/-- The result. -/
def out0 (c : Dev nD) : Vec F S512x512 .f32 := k0_pay30 (PA m c) (band (RY m c) 0)
def out1 (c : Dev nD) : Vec F S512x512 .f32 := k0_pay31 (PA m c) (band (RY m c) 8) (out0 m c)
def out2 (c : Dev nD) : Vec F S512x512 .f32 := k0_pay1 (k0_pay32 (PA m c) (band (RY m c) 16)) (out1 m c)
def out3 (c : Dev nD) : Vec F S512x512 .f32 := k0_pay2 (PA m c) (band (RY m c) 24) (out2 m c)

/-! ## Who holds what of whom -/

theorem RX_sent (c : Dev nD) (k : ℕ) : ∀ i ∈ slot k, SG m c i = RX m (dn c k) i := by
  intro i hi; unfold RX; rw [mem_slot.mp hi, up_dn]
theorem RY_sent (c : Dev nD) (k : ℕ) : ∀ i ∈ slot k, YS m c i = RY m (up c k) i := by
  intro i hi; unfold RY; rw [mem_slot.mp hi, dn_up]
theorem RX_own (c : Dev nD) : ∀ i ∈ slot 31, SG m c i = RX m c i := by
  intro i hi; unfold RX; rw [mem_slot.mp hi, up_last]
theorem RY_own (c : Dev nD) : ∀ i ∈ slot 31, YS m c i = RY m c i := by
  intro i hi; unfold RY; rw [mem_slot.mp hi, dn_last]

/-! ## The eight payloads of the two products are one function -/

theorem pay19_eq (x : Vec F S8x20x512 .bf16) (u v) : k0_pay19 (k0_pay18 x) u v = k0_pay20 x u v := rfl
theorem pay21_eq (x : Vec F S8x20x512 .bf16) (u v) : k0_pay21 x u v = k0_pay20 x u v := rfl
theorem pay23_eq (x : Vec F S8x20x512 .bf16) (u v) : k0_pay23 (k0_pay22 x u) v = k0_pay20 x u v := rfl
theorem pay24_eq (x : Vec F S8x20x512 .bf16) (u v) : k0_pay24 x u v = k0_pay20 x u v := rfl
theorem pay25_eq (x : Vec F S8x20x512 .bf16) (u v) : k0_pay25 x u v = k0_pay20 x u v := rfl
theorem pay27_eq (x : Vec F S8x20x512 .bf16) (u v) : k0_pay27 (k0_pay26 x u) v = k0_pay20 x u v := rfl
theorem pay28_eq (x : Vec F S8x20x512 .bf16) (u v) : k0_pay28 x u v = k0_pay20 x u v := rfl

/-! ## Loads and stores at the printed rectangles -/

theorem read_half_rx {o p : ℕ} (inb) (f : Vec F S32x40x512 .bf16) :
    rxM.view.readAt (Elt F) (Rect.unit (s := S32x40x512) ![o, p, 0] S8x20x512.size inb).toLoadRect f = half f o p := by
  funext x
  have h0 : (x 0).val < 8 := (x 0).isLt
  have h1 : (x 1).val < 20 := (x 1).isLt
  have h2 : (x 2).val < 512 := (x 2).isLt
  have i0 : o + 8 ≤ 32 := inb 0
  have i1 : p + 20 ≤ 40 := inb 1
  show f _ = f _
  refine congrArg f (idx3_ext ?_ ?_ ?_)
  · show o + 1 * (x 0).val = (o + (x 0).val) % 32; omega
  · show p + 1 * (x 1).val = (p + (x 1).val) % 40; omega
  · show 0 + 1 * (x 2).val = (x 2).val % 512; omega

theorem read_band_ry {o : ℕ} (inb) (f : Vec F S32x40x512 .bf16) :
    ryM.view.readAt (Elt F) (Rect.unit (s := S32x40x512) ![o, 0, 0] S8x40x512.size inb).toLoadRect f = band f o := by
  funext x
  have h0 : (x 0).val < 8 := (x 0).isLt
  have h1 : (x 1).val < 40 := (x 1).isLt
  have h2 : (x 2).val < 512 := (x 2).isLt
  have i0 : o + 8 ≤ 32 := inb 0
  show f _ = f _
  refine congrArg f (idx3_ext ?_ ?_ ?_)
  · show o + 1 * (x 0).val = (o + (x 0).val) % 32; omega
  · show 0 + 1 * (x 1).val = (x 1).val % 40; omega
  · show 0 + 1 * (x 2).val = (x 2).val % 512; omega

abbrev waM : Memref sig .tc .vmem S2x512x1024 .bf16 := Memref.whole cc0_scratch4
abbrev wbM : Memref sig .tc .vmem S2x1024x512 .bf16 := Memref.whole cc0_scratch5

theorem read_slab1 {e : ℕ} (inb) (f : Vec F S2x512x1024 .bf16) :
    waM.view.readAt (Elt F) (Rect.unit (s := S2x512x1024) ![e, 0, 0] S1x512x1024.size inb).toLoadRect f = slab1 f e := by
  funext x
  have h0 : (x 0).val < 1 := (x 0).isLt
  have h1 : (x 1).val < 512 := (x 1).isLt
  have h2 : (x 2).val < 1024 := (x 2).isLt
  have i0 : e + 1 ≤ 2 := inb 0
  show f _ = f _
  refine congrArg f (idx3_ext ?_ ?_ ?_)
  · show e + 1 * (x 0).val = e % 2; omega
  · show 0 + 1 * (x 1).val = (x 1).val % 512; omega
  · show 0 + 1 * (x 2).val = (x 2).val % 1024; omega

theorem read_slab2 {e : ℕ} (inb) (f : Vec F S2x1024x512 .bf16) :
    wbM.view.readAt (Elt F) (Rect.unit (s := S2x1024x512) ![e, 0, 0] S1x1024x512.size inb).toLoadRect f = slab2 f e := by
  funext x
  have h0 : (x 0).val < 1 := (x 0).isLt
  have h1 : (x 1).val < 1024 := (x 1).isLt
  have h2 : (x 2).val < 512 := (x 2).isLt
  have i0 : e + 1 ≤ 2 := inb 0
  show f _ = f _
  refine congrArg f (idx3_ext ?_ ?_ ?_)
  · show e + 1 * (x 0).val = e % 2; omega
  · show 0 + 1 * (x 1).val = (x 1).val % 1024; omega
  · show 0 + 1 * (x 2).val = (x 2).val % 512; omega

/-- The half-rows from `p` of the eight computed slots from `o`, as a store names them. -/
abbrev ysHalf (o p : ℕ) (inb : ∀ a, (![o, p, 0] : Fin 3 → ℕ) a + S8x20x512.size a ≤ S32x40x512.size a) : View sig .tc .vmem S8x20x512 .bf16 :=
  ysM.access (Rect.unit (s := S32x40x512) ![o, p, 0] S8x20x512.size inb)

section Chunk
variable (q : ℕ) (inb0 : ∀ a, (![8 * q, 0, 0] : Fin 3 → ℕ) a + S8x20x512.size a ≤ S32x40x512.size a)
  (inb1 : ∀ a, (![8 * q, 20, 0] : Fin 3 → ℕ) a + S8x20x512.size a ≤ S32x40x512.size a) (g : ysM.view.ty.Contents (Elt F))
  (w0 w1 : Vec F S8x20x512 .bf16) (i : S32x40x512.Idx)

/-- A store of a chunk's upper half-rows leaves the lower ones. -/
theorem write_upper_below (hlo : (i 1).val < 20) : (ysHalf (8 * q) 20 inb1).write (Elt F) g w1 Finset.univ i = g i := by
  refine View.write_of_not_mem _ _ _ ?_
  intro hmem
  obtain ⟨x, -, hx⟩ := Finset.mem_map.mp hmem
  have : (i 1).val = 20 + 1 * (x 1).val := by rw [← hx]; rfl
  omega

/-- The two stores of a chunk leave its eight slots at the computed contents. -/
theorem chunk_done (c : Dev nD)
    (h0 : w0 = k0_pay20 (half (RX m c) (8 * q) 0) (slab1 (k0_pay4 (Wa m c)) 0) (slab2 (k0_pay5 (Wb m c)) 0))
    (h1 : w1 = k0_pay20 (half (RX m c) (8 * q) 20) (slab1 (k0_pay4 (Wa m c)) 1) (slab2 (k0_pay5 (Wb m c)) 1))
    (hi : i ∈ slots (8 * q) (8 * q + 8)) :
    (ysHalf (8 * q) 20 inb1).write (Elt F) ((ysHalf (8 * q) 0 inb0).write (Elt F) g w0 Finset.univ) w1 Finset.univ i = YS m c i := by
  rw [mem_slots] at hi
  have b1 : (i 1).val < 40 := (i 1).isLt
  have b2 : (i 2).val < 512 := (i 2).isLt
  have e0 : (i 0).val / 8 = q := by omega
  by_cases hlo : (i 1).val < 20
  · have e1 : (i 1).val / 20 = 0 := by omega
    have hi0 : (ysHalf (8 * q) 0 inb0).emb
        (at8 (i 0).val (i 1).val (i 2).val) = i := by
      refine idx3_ext (d := S32x40x512.size) ?_ ?_ ?_
      · show 8 * q + 1 * ((i 0).val % 8) = (i 0).val; omega
      · show 0 + 1 * ((i 1).val % 20) = (i 1).val; omega
      · show 0 + 1 * ((i 2).val % 512) = (i 2).val; omega
    refine (write_upper_below q inb1 _ w1 i hlo).trans ?_
    conv_lhs => rw [← hi0]
    rw [View.write_emb_of_mem _ _ (Finset.mem_univ _), cast_eq, h0]
    unfold YS; rw [e0, e1]
  · have e1 : (i 1).val / 20 = 1 := by omega
    have hi1 : (ysHalf (8 * q) 20 inb1).emb
        (at8 (i 0).val (i 1).val (i 2).val) = i := by
      refine idx3_ext (d := S32x40x512.size) ?_ ?_ ?_
      · show 8 * q + 1 * ((i 0).val % 8) = (i 0).val; omega
      · show 20 + 1 * ((i 1).val % 20) = (i 1).val; omega
      · show 0 + 1 * ((i 2).val % 512) = (i 2).val; omega
    conv_lhs => rw [← hi1]
    rw [View.write_emb_of_mem _ _ (Finset.mem_univ _), cast_eq, h1]
    unfold YS; rw [e0, e1]

end Chunk

/-- The store of the device's own outgoing slot into its own receive buffer. -/
theorem own_out (c : Dev nD) (g : rxM.view.ty.Contents (Elt F)) (inb inb') :
    ∀ i ∈ slot 31, (rxM.access (Rect.unit (s := S32x40x512) ![31, 0, 0] S1x40x512.size inb) : View sig .tc _ _ _).write (Elt F) g
      (k0_pay17 (sgM.view.readAt (Elt F) (Rect.unit (s := S32x40x512) ![31, 0, 0] S1x40x512.size inb').toLoadRect (SG m c))) Finset.univ i = RX m c i := by
  intro i hi
  rw [← RX_own m c i hi]
  have him : i ∈ (rxM.access (Rect.unit (s := S32x40x512) ![31, 0, 0] S1x40x512.size inb) : View sig .tc _ _ _).set := by
    have e : (rxM.access (Rect.unit (s := S32x40x512) ![31, 0, 0] S1x40x512.size inb) : View sig .tc _ _ _).set = slot 31 :=
      (View.set_slice_whole cc0_scratch1 _).trans (rect_slot rfl inb)
    rw [e]; exact hi
  obtain ⟨x, -, rfl⟩ := Finset.mem_map.mp him
  rw [View.write_emb_of_mem _ _ (Finset.mem_univ x), cast_eq]
  unfold k0_pay17
  rw [shapeCast_shapeCast]
  rfl

/-- The store of the device's own computed slot into its own return buffer. -/
theorem own_back (c : Dev nD) (g : ryM.view.ty.Contents (Elt F)) (inb inb') :
    ∀ i ∈ slot 31, (ryM.access (Rect.unit (s := S32x40x512) ![31, 0, 0] S1x40x512.size inb) : View sig .tc _ _ _).write (Elt F) g
      (k0_pay29 (ysM.view.readAt (Elt F) (Rect.unit (s := S32x40x512) ![31, 0, 0] S1x40x512.size inb').toLoadRect (YS m c))) Finset.univ i = RY m c i := by
  intro i hi
  rw [← RY_own m c i hi]
  have him : i ∈ (ryM.access (Rect.unit (s := S32x40x512) ![31, 0, 0] S1x40x512.size inb) : View sig .tc _ _ _).set := by
    have e : (ryM.access (Rect.unit (s := S32x40x512) ![31, 0, 0] S1x40x512.size inb) : View sig .tc _ _ _).set = slot 31 :=
      (View.set_slice_whole cc0_scratch3 _).trans (rect_slot rfl inb)
    rw [e]; exact hi
  obtain ⟨x, -, rfl⟩ := Finset.mem_map.mp him
  rw [View.write_emb_of_mem _ _ (Finset.mem_univ x), cast_eq]
  unfold k0_pay29
  rw [shapeCast_shapeCast]
  rfl

end Cert.Exchange

end
-- ==== Proof.Protocol.lean ====
/-
The protocol: each semaphore's one round of duties and what they hand over, what a device owes, and the levels that
order the waits.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's, whose duties are named by numbers -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev xcell (c : Dev nD) (j k : ℕ) : GSem nD τ sig := ((c : Thread nD τ), .dma (dsem j k))

/-! ## A slot of each exchange buffer, held -/

def sgP (c : Dev nD) (k : ℕ) (f : Vec F S32x40x512 .bf16) : sProp 𝕄 :=
  ((c : Thread nD τ).loc cc0_scratch0) ↦[slot k]{fullShare} f
def rxP (c : Dev nD) (k : ℕ) (f : Vec F S32x40x512 .bf16) : sProp 𝕄 :=
  ((c : Thread nD τ).loc cc0_scratch1) ↦[slot k]{fullShare} f
def ysP (c : Dev nD) (k : ℕ) (f : Vec F S32x40x512 .bf16) : sProp 𝕄 :=
  ((c : Thread nD τ).loc cc0_scratch2) ↦[slot k]{fullShare} f
def ryP (c : Dev nD) (k : ℕ) (f : Vec F S32x40x512 .bf16) : sProp 𝕄 :=
  ((c : Thread nD τ).loc cc0_scratch3) ↦[slot k]{fullShare} f

omit [FloatOps F] in
instance sgP_storable (c k f) : BI.Storable (upEmb : UEmb _ 𝕄) (sgP (F := F) c k f) := by unfold sgP; infer_instance
omit [FloatOps F] in
instance rxP_storable (c k f) : BI.Storable (upEmb : UEmb _ 𝕄) (rxP (F := F) c k f) := by unfold rxP; infer_instance
omit [FloatOps F] in
instance ysP_storable (c k f) : BI.Storable (upEmb : UEmb _ 𝕄) (ysP (F := F) c k f) := by unfold ysP; infer_instance
omit [FloatOps F] in
instance ryP_storable (c k f) : BI.Storable (upEmb : UEmb _ 𝕄) (ryP (F := F) c k f) := by unfold ryP; infer_instance

/-! ## The schedule -/

/-- What the signal of `up c k` hands `c`: the two slots of its that `c` will fill. -/
def barPay (c : Dev nD) (k : ℕ) : sProp 𝕄 := iprop((∃ f, rxP (up c k) (30 - k) f) ∗ (∃ f, ryP (up c k) k f))

/-- What the transfer that completes on slot `k` of array `j` leaves with `c`. -/
def xPay (c : Dev nD) (j k : ℕ) : sProp 𝕄 :=
  if j = 0 then sgP c k (SG m c) else if j = 1 then rxP c k (RX m c)
  else if j = 2 then ysP c k (YS m c) else ryP c k (RY m c)

/-- Slots `0 … 30` of the four arrays are used. -/
abbrev Used (q : ℕ) : Prop := 5 ≤ q ∧ (q - 5) % 32 ≠ 31

def rd : Rounds.Schedule (GSem nD τ sig) ℕ 𝕄 where
  duties g r := if r = 0 ∧ g.1.2 = .tc then
      (match g.2 with | .reg s => if s = barS then Finset.range 31 else ∅ | .dma q => if Used q.val then {0} else ∅)
    else ∅
  unitless _ := False
  amount g _ _ := match g.2 with | .reg _ => 1 | .dma _ => N
  payload g _ d := match g.2 with
    | .reg _ => barPay g.1.1 d
    | .dma q => xPay m g.1.1 ((q.val - 5) / 32) ((q.val - 5) % 32)
  amount_pos g _ _ _ := by
    rcases g with ⟨t, s | q⟩
    · exact Nat.one_pos
    · exact N_pos

instance rd_storable (g : GSem nD τ sig) (r d : ℕ) : BI.Storable (upEmb : UEmb _ 𝕄) ((rd (F := F) m).payload g r d) := by
  rcases g with ⟨t, s | q⟩
  · show BI.Storable upEmb (barPay t.1 d)
    unfold barPay; infer_instance
  · show BI.Storable upEmb (xPay m t.1 ((q.val - 5) / 32) ((q.val - 5) % 32))
    unfold xPay
    (repeat' split) <;> infer_instance

section Sched
variable (c : Dev nD)

theorem duties_bar : (rd (F := F) m).duties (barCell c) 0 = Finset.range 31 := by
  dsimp only [rd]; rw [if_pos ⟨rfl, rfl⟩, if_pos rfl]
theorem duties_x {j k : ℕ} (hj : j < 4) (hk : k < 31) : (rd (F := F) m).duties (xcell c j k) 0 = {0} := by
  dsimp only [rd]; rw [if_pos ⟨rfl, rfl⟩, if_pos]
  rw [dsem_val hj (by omega)]; constructor <;> omega
theorem duties_x31 {j : ℕ} (hj : j < 4) (r : ℕ) : (rd (F := F) m).duties (xcell c j 31) r = ∅ := by
  dsimp only [rd]; split_ifs with h h'
  · exfalso; rw [dsem_val hj (by omega)] at h'; omega
  · rfl
  · rfl
theorem duties_later (g : GSem nD τ sig) : ∀ r, 1 ≤ r → (rd (F := F) m).duties g r = ∅ :=
  fun r hr => by dsimp only [rd]; rw [if_neg fun h => by omega]

theorem amount_bar (d : ℕ) : (rd (F := F) m).amount (barCell c) 0 d = 1 := rfl
theorem amount_x (j k d : ℕ) : (rd (F := F) m).amount (xcell c j k) 0 d = N := rfl

theorem expect_bar : (rd (F := F) m).expect (barCell c) 0 = 31 := by
  unfold Schedule.expect Schedule.amountOf
  rw [duties_bar, Finset.sum_congr rfl fun d _ => amount_bar m c d, Finset.sum_const, Finset.card_range, smul_eq_mul]
theorem expect_x {j k : ℕ} (hj : j < 4) (hk : k < 31) : (rd (F := F) m).expect (xcell c j k) 0 = N := by
  unfold Schedule.expect Schedule.amountOf; rw [duties_x m c hj hk, Finset.sum_singleton, amount_x]

theorem payload_bar (d : ℕ) : (rd (F := F) m).payload (barCell c) 0 d = barPay c d := rfl
theorem payload_x {j k : ℕ} (hj : j < 4) (hk : k < 31) (d : ℕ) : (rd (F := F) m).payload (xcell c j k) 0 d = xPay m c j k := by
  show xPay m c (((dsem j k).val - 5) / 32) (((dsem j k).val - 5) % 32) = _
  rw [dsem_val hj (by omega)]; congr 1 <;> omega

theorem rest_bar : bigSep ((rd (F := F) m).duties (barCell c) 0 \ ∅) (fun d => (rd (F := F) m).payload (barCell c) 0 d)
    = bigSep (Finset.range 31) fun k => barPay c k := by
  rw [Finset.sdiff_empty, duties_bar]; rfl
theorem rest_x {j k : ℕ} (hj : j < 4) (hk : k < 31) :
    bigSep ((rd (F := F) m).duties (xcell c j k) 0 \ ∅) (fun d => (rd (F := F) m).payload (xcell c j k) 0 d) = xPay m c j k := by
  rw [Finset.sdiff_empty, duties_x m c hj hk, bigSep_singleton, payload_x m c hj hk]

end Sched

/-! ## What a device owes: its returns from `a`, its sends from `b`, its signals from `d` -/

def owed (c : Dev nD) (a b d : ℕ) : CellTallies nD τ sig Unit :=
  (∑ k ∈ Finset.Ico a 31, tallyAt (xcell (up c k) 3 k) () N) + (∑ k ∈ Finset.Ico b 31, tallyAt (xcell (dn c k) 1 k) () N)
    + ∑ k ∈ Finset.Ico d 31, tallyAt (barCell (dn c k)) () 1

theorem owed_sig (c : Dev nD) {a b k : ℕ} (hk : k < 31) : owed c a b k = owed c a b (k + 1) + tallyAt (barCell (dn c k)) () 1 := by
  unfold owed; rw [Finset.sum_eq_sum_Ico_succ_bot hk, add_assoc, add_assoc, add_comm (tallyAt _ _ _)]
  simp only [add_assoc]
theorem owed_out (c : Dev nD) {a d k : ℕ} (hk : k < 31) : owed c a k d = owed c a (k + 1) d + tallyAt (xcell (dn c k) 1 k) () N := by
  unfold owed; rw [Finset.sum_eq_sum_Ico_succ_bot hk]; abel
theorem owed_ret (c : Dev nD) {b d k : ℕ} (hk : k < 31) : owed c k b d = owed c (k + 1) b d + tallyAt (xcell (up c k) 3 k) () N := by
  unfold owed; rw [Finset.sum_eq_sum_Ico_succ_bot hk]; abel
theorem owed_none (c : Dev nD) : owed c 31 31 31 = 0 := by
  unfold owed; simp only [Finset.Ico_self, Finset.sum_empty, add_zero]

theorem owed_apply (c : Dev nD) (a b d : ℕ) (g : GSem nD τ sig) :
    owed c a b d g () = (∑ k ∈ Finset.Ico a 31, if g = xcell (up c k) 3 k then N else 0)
      + (∑ k ∈ Finset.Ico b 31, if g = xcell (dn c k) 1 k then N else 0) + ∑ k ∈ Finset.Ico d 31, if g = barCell (dn c k) then 1 else 0 := by
  unfold owed
  simp only [Pi.add_apply, Finsupp.add_apply, Finset.sum_apply, Finsupp.finset_sum_apply, tallyAt_apply, and_true]

theorem owed_pos {c : Dev nD} {a b d : ℕ} {g : GSem nD τ sig} {u : Unit} (h : 0 < owed c a b d g u) :
    ∃ k, k < 31 ∧ ((a ≤ k ∧ g = xcell (up c k) 3 k) ∨ (b ≤ k ∧ g = xcell (dn c k) 1 k) ∨ (d ≤ k ∧ g = barCell (dn c k))) := by
  cases u
  rw [owed_apply] at h
  have h' : (0 < ∑ k ∈ Finset.Ico a 31, if g = xcell (up c k) 3 k then N else 0)
      ∨ (0 < ∑ k ∈ Finset.Ico b 31, if g = xcell (dn c k) 1 k then N else 0)
      ∨ 0 < ∑ k ∈ Finset.Ico d 31, if g = barCell (dn c k) then 1 else 0 := by omega
  rcases h' with h | h | h
  all_goals
    obtain ⟨k, hk, hp⟩ := Finset.sum_pos_iff.mp h
    rw [Finset.mem_Ico] at hk
    split_ifs at hp with hg
    · exact ⟨k, hk.2, by tauto⟩
    · exact absurd hp (Nat.lt_irrefl 0)

/-! ## Levels -/

def L (g : GSem nD τ sig) : Finset Unit := if g.1.2 = .tc then {()} else ∅
/-- Barriers at 1, arrivals out at 2, arrivals back at 3, everything else at 0. -/
def lvl : SemLoc sig → ℕ
  | .reg _ => 1
  | .dma q => if 37 ≤ q.val ∧ q.val < 69 then 2 else if 101 ≤ q.val then 3 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lvl_x {j k : ℕ} (hj : j < 4) (hk : k < 32) : lvl (.dma (dsem j k)) = if j = 1 then 2 else if j = 3 then 3 else 0 := by
  show (if _ then _ else _) = _; rw [dsem_val hj hk]; split_ifs <;> first | rfl | omega

/-- A device may wait below everything it owes. -/
theorem mayWait_below (c : Dev nD) (sm : SemLoc sig) {a b d : ℕ} (n : ℕ) (hsm : lvl sm ≤ n)
    (ha : a < 31 → n < 3) (hb : b < 31 → n < 2) (hd : d < 31 → n < 1) :
    (levAts L lv : sProp 𝕄) ⊢ MayWait (c : Thread nD τ) sm () (owed c a b d) := by
  refine MayOwe.of_cut (L := L) (lev := lv) n (fun p hp => by rw [Finset.mem_singleton.mp hp, L_tc]; exact Finset.mem_singleton_self _)
    (fun g u hg => ?_) (fun p hp => by rw [Finset.mem_singleton.mp hp]; exact hsm) (fun g u hg => ?_)
  · obtain ⟨k, hk, ⟨_, rfl⟩ | ⟨_, rfl⟩ | ⟨_, rfl⟩⟩ := owed_pos hg <;> exact Finset.mem_singleton_self _
  · obtain ⟨k, hk, ⟨h, rfl⟩ | ⟨h, rfl⟩ | ⟨h, rfl⟩⟩ := owed_pos hg
    · show n < lvl _; rw [lvl_x (by decide) (by omega), if_neg (by decide), if_pos rfl]; exact ha (by omega)
    · show n < lvl _; rw [lvl_x (by decide) (by omega), if_pos rfl]; exact hb (by omega)
    · exact hd (by omega)

end Cert.Exchange

end
-- ==== Proof.Steps.lean ====
/-
One trip of each kind of loop: a signal, a transfer out, a transfer back, and the waits; and the rule that runs a loop
over a family of resources.
-/
module

public import proofs.«01_k».proof.Proof.Protocol
public import Idealize.SL.BI.BigOpNat

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows: each cell's invariant and that its round 0 was reached; the levels -/

abbrev CI : Type := Option (Fin 4 × Fin 32)
def kcell (p : Dev nD × CI) : GSem nD τ sig := match p.2 with
  | none => barCell p.1
  | some jk => xcell p.1 jk.1.val jk.2.val

def know : sProp 𝕄 :=
  iprop((bigSep Finset.univ fun p : Dev nD × CI => iprop(∃ κ : ℕ, cellInv ER (rd m) κ (kcell p)))
    ∗ (bigSep Finset.univ fun p : Dev nD × CI => reached ER (kcell p) 0) ∗ levAts L lv)

instance know_persistent : BI.Persistent (know m) := by unfold know; infer_instance

theorem inv_all : know m ⊢ bigSep Finset.univ fun p : Dev nD × CI => (iprop(∃ κ : ℕ, cellInv ER (rd m) κ (kcell p)) : sProp 𝕄) := by
  unfold know; iintro ⟨#H, -, -⟩; iexact H
theorem mark_all : know m ⊢ bigSep Finset.univ fun p : Dev nD × CI => (reached ER (kcell p) 0 : sProp 𝕄) := by
  unfold know; iintro ⟨-, #H, -⟩; iexact H
theorem inv_at (p : Dev nD × CI) : know m ⊢ iprop(∃ κ : ℕ, cellInv ER (rd m) κ (kcell p)) :=
  (inv_all m).trans (bigSep_elim (Finset.mem_univ p))
theorem mark_at (p : Dev nD × CI) : know m ⊢ reached ER (kcell p) 0 :=
  (mark_all m).trans (bigSep_elim (Finset.mem_univ p))
theorem levs : know m ⊢ levAts L lv := by unfold know; iintro ⟨-, -, #H⟩; iexact H

theorem inv_bar (c : Dev nD) : know m ⊢ iprop(∃ κ : ℕ, cellInv ER (rd m) κ (barCell c)) := inv_at m (c, none)
theorem inv_x (c : Dev nD) {j k : ℕ} (hj : j < 4) (hk : k < 32) : know m ⊢ iprop(∃ κ : ℕ, cellInv ER (rd m) κ (xcell c j k)) :=
  inv_at m (c, some (⟨j, hj⟩, ⟨k, hk⟩))
theorem mark_bar (c : Dev nD) : know m ⊢ reached ER (barCell c) 0 := mark_at m (c, none)
theorem mark_x (c : Dev nD) {j k : ℕ} (hj : j < 4) (hk : k < 32) : know m ⊢ reached ER (xcell c j k) 0 :=
  mark_at m (c, some (⟨j, hj⟩, ⟨k, hk⟩))

/-! ## A loop over a family -/

/-- Each trip turns the member `A (b + i)` of one family into the member `B (b + i)` of another, moving `S`. -/
theorem loop_family (c : Dev nD) (b t : ℕ) (A B S : ℕ → sProp 𝕄) (l : Scf.Loop 32) (hok : l.OK) (ht : l.trips = t)
    (body : Fin l.trips → Unit → Prog (TpuEff nD τ sig (Elt F) Λ₀ .tc) Unit)
    (hstep : ∀ (i : Fin l.trips), iprop(know m ∗ S (i.val + b) ∗ A (i.val + b))
      ⊢ wp frame (wpE (defs₀ (F := F)) 𝒱₀ (c : Thread nD τ) none) Set.univ (body i ⟨⟩) fun _ => iprop(S (i.val + b + 1) ∗ B (i.val + b)))
    {α : Type} {kk : Unit → Prog (TpuEff nD τ sig (Elt F) Λ₀ .tc) α} {Q : α → sProp 𝕄} :
    iprop(know m ∗ S b ∗ bigSep (Finset.Ico b (t + b)) A)
      ⊢ iprop(((S (t + b) ∗ bigSep (Finset.Ico b (t + b)) B) -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  subst ht
  have hb : ∀ (i : Fin l.trips) (acc : Unit),
      iprop(know m ∗ S (i.val + b) ∗ bigSep (Finset.Ico (i.val + b) (l.trips + b)) A ∗ bigSep (Finset.Ico b (i.val + b)) B)
      ⊢ wp frame (wpE (defs₀ (F := F)) 𝒱₀ (c : Thread nD τ) none) Set.univ (body i acc) fun _ =>
          iprop(know m ∗ S ((i.val + 1) + b) ∗ bigSep (Finset.Ico ((i.val + 1) + b) (l.trips + b)) A
            ∗ bigSep (Finset.Ico b ((i.val + 1) + b)) B) := fun i acc => by
    rw [bigSep_Ico_succ_bot (by have := i.isLt; omega : i.val + b < l.trips + b) A, Nat.add_right_comm i.val 1 b,
      bigSep_Ico_succ_top (by omega : b ≤ i.val + b) B]
    iintro ⟨#HK, HS, ⟨Ha, HA⟩, HB⟩
    iapply (wp_wand_r frame _ Set.univ)
    isplitl [HS Ha]
    · iapply (hstep i); isplitr; · iexact HK
      isplitl [HS] <;> iassumption
    · iintro %_ ⟨HS, Hb⟩
      isplitr; · iexact HK
      isplitl [HS]; · iexact HS
      isplitl [HA]; · iexact HA
      isplitl [Hb] <;> iassumption
  rw [wp_bind]
  iintro ⟨#HK, HS, HA⟩ Hk
  iapply (Scf.wp_for frame _ Set.univ l.lb l.ub l.st hok ⟨⟩ body
    (fun i _ => iprop(know m ∗ S (i + b) ∗ bigSep (Finset.Ico (i + b) (l.trips + b)) A ∗ bigSep (Finset.Ico b (i + b)) B)) hb)
  isplitl [HS HA]
  · rw [Nat.zero_add, Finset.Ico_self]
    isplitr; · iexact HK
    isplitl [HS]; · iexact HS
    isplitl [HA]; · iexact HA
    iempintro
  · iintro %_ ⟨-, HS, -, HB⟩
    iapply Hk
    isplitl [HS] <;> iassumption

/-! ## The steps -/

/-- A device's account, whatever it has waited on. -/
def acct (c : Dev nD) (a b d : ℕ) : sProp 𝕄 := iprop(∃ W, owes (c : Thread nD τ) (owed c a b d) W)

abbrev seen (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem step_signal (c n : Dev nD) {k : ℕ} (hk : k < 31) (hn : n = dn c k) (s : Sem sig) (hs : s = barS) :
    iprop(know m ∗ acct c 0 0 k ∗ dutyTok ER (barCell (dn c k)) 0 k ∗ barPay (dn c k) k)
      ⊢ seen c (.op (.semSignal (Dev.tc n) s (1#32 : BitVec 32).toInt) .ret) fun _ => acct c 0 0 (k + 1) := by
  subst hn; subst hs
  unfold acct
  iintro ⟨#HK, ⟨%W, HO⟩, Ht, Hp⟩
  ihave HI := (inv_bar m (dn c k)) $$ HK
  icases HI with ⟨%κ, #HI⟩
  iapply (Rounds.wp_signal 𝒱₀ ER (rd m) (c : Thread nD τ) none (dst := (dn c k : Thread nD τ)) (κ := κ)
      (d := k) (by rw [duties_bar]; exact Finset.mem_range.mpr hk) ((amount_bar m (dn c k) k).trans (by decide)) () (owed c 0 0 (k + 1))
      (owed_sig c hk)) $$ [HO Ht Hp]
  · isplitr; · iexact HI
    isplitl [HO]; · iexact HO
    isplitl [Ht]; · iexact Ht
    isplitl [Hp]; · rw [payload_bar]; iexact Hp
    iapply (mark_bar m); iexact HK
  iintro HO
  rw [wp_ret]; imodintro; iexists W; iexact HO

/-- A copy to device `n` completing on `n`'s cell `(j₂, k)`, whose send completes on `c`'s cell `(j₁, k)`. -/
theorem send_any (c n : Dev nD) {src dst : Memref sig .tc .vmem S40x512 .bf16} {s₁ s₂ : DmaSem sig}
    {hsc : (dst : Memref sig (Dev.tc n : Thread nD τ).2.kind .vmem S40x512 .bf16).view.ref.isScScratch = false}
    {hsrc : src.view.WordExact} {hdst : dst.view.WordExact}
    {hsem : DmaTarget.Typed .vmem (.dma s₂) (.remote (Dev.tc n : Thread nD τ) dst (.dma s₁) hsc)}
    {j₁ j₂ k : ℕ} (hj₁ : j₁ < 4) (hj₂ : j₂ < 4) (hk : k < 31) (h₁ : s₁ = dsem j₁ k) (h₂ : s₂ = dsem j₂ k)
    {O₀ O : CellTallies nD τ sig Unit} (hO : O₀ = O + tallyAt (xcell n j₂ k) () N) (hN : dst.view.amount (.dma s₂ : SemLoc sig) = N)
    (fs : Buf (Elt F) (src.view.loc (c : Thread nD τ))) (fd : Buf (Elt F) (dst.view.loc (n : Thread nD τ)))
    (hs : (src.view.loc (c : Thread nD τ) ↦[src.view.set]{fullShare} fs : sProp 𝕄) ⊢ xPay m c j₁ k)
    (hd : (dst.view.loc (n : Thread nD τ) ↦[dst.view.set]{fullShare} (dst.view.write (Elt F) fd (src.view.read (Elt F) fs) Finset.univ) : sProp 𝕄)
      ⊢ xPay m n j₂ k) (W : Waits sig Unit) :
    iprop(know m ∗ owes (c : Thread nD τ) O₀ W ∗ (src.view.loc (c : Thread nD τ) ↦[src.view.set]{fullShare} fs)
        ∗ (dst.view.loc (n : Thread nD τ) ↦[dst.view.set]{fullShare} fd) ∗ dutyTok ER (xcell c j₁ k) 0 0 ∗ dutyTok ER (xcell n j₂ k) 0 0)
      ⊢ seen c (.op (.enqueueDma src (.remote (Dev.tc n : Thread nD τ) dst (.dma s₁) hsc) (.dma s₂) hsrc hdst hsem) .ret)
          fun _ => iprop(owes (c : Thread nD τ) O W ∗ cred (tallyAt (xcell c j₁ k) () N)) := by
  subst h₁; subst h₂
  iintro ⟨#HK, HO, Hs, Hd, Ht, Ht'⟩
  ihave HI := (inv_x m c hj₁ (show k < 32 by omega)) $$ HK
  icases HI with ⟨%κ, #HI⟩
  ihave HI' := (inv_x m n hj₂ (show k < 32 by omega)) $$ HK
  icases HI' with ⟨%κ', #HI'⟩
  iapply (Rounds.wp_send_pointsTo 𝒱₀ ER (rd m) (c : Thread nD τ) none (κ₁ := κ) (κ₂ := κ') (r₁ := 0) (r₂ := 0) (d₁ := 0) (d₂ := 0) (fs := fs) (fd := fd)
    (by rw [duties_x m c hj₁ hk]; exact Finset.mem_singleton_self _) (by rw [duties_x m n hj₂ hk]; exact Finset.mem_singleton_self _)
    () () N hN (amount_x m c j₁ k 0) (amount_x m n j₂ k 0) O hO (W := W)
    (by rw [payload_x m c hj₁ hk]; exact hs) (by rw [payload_x m n hj₂ hk]; exact hd)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iapply (mark_x m c hj₁ (show k < 32 by omega)); iexact HK
    isplitl [Ht']; · iexact Ht'
    iapply (mark_x m n hj₂ (show k < 32 by omega)); iexact HK
  iintro ⟨Hc, HO⟩
  rw [wp_ret]; imodintro
  isplitl [HO] <;> iassumption

section Slots
variable (c n : Dev nD) {k : ℕ} {off : Fin 3 → ℕ} (h : off = ![k, 0, 0]) (inb : ∀ a, off a + S1x40x512.size a ≤ S32x40x512.size a)
include h

theorem sgP_eq (f : Vec F S32x40x512 .bf16) : sgP c k f = ((slotM sgM off inb).view.loc (c : Thread nD τ) ↦[(slotM sgM off inb).view.set]{fullShare} f : sProp 𝕄) := by
  rw [sgM_set h inb]; rfl
theorem rxP_eq (f : Vec F S32x40x512 .bf16) : rxP c k f = ((slotM rxM off inb).view.loc (c : Thread nD τ) ↦[(slotM rxM off inb).view.set]{fullShare} f : sProp 𝕄) := by
  rw [rxM_set h inb]; rfl
theorem ysP_eq (f : Vec F S32x40x512 .bf16) : ysP c k f = ((slotM ysM off inb).view.loc (c : Thread nD τ) ↦[(slotM ysM off inb).view.set]{fullShare} f : sProp 𝕄) := by
  rw [ysM_set h inb]; rfl
theorem ryP_eq (f : Vec F S32x40x512 .bf16) : ryP c k f = ((slotM ryM off inb).view.loc (c : Thread nD τ) ↦[(slotM ryM off inb).view.set]{fullShare} f : sProp 𝕄) := by
  rw [ryM_set h inb]; rfl

/-- A slot's copy goes out: the slot and the far landing slot are spent, the credit for the send's completion comes back. -/
theorem step_out (hk : k < 31) (hn : n = dn c k) {s₁ s₂ : DmaSem sig} (h₁ : s₁ = dsem 0 k) (h₂ : s₂ = dsem 1 k)
    {hsc : (slotM rxM off inb : Memref sig (Dev.tc n : Thread nD τ).2.kind .vmem S40x512 .bf16).view.ref.isScScratch = false}
    {hsrc : (slotM sgM off inb).view.WordExact} {hdst : (slotM rxM off inb).view.WordExact}
    {hsem : DmaTarget.Typed .vmem (.dma s₂) (.remote (Dev.tc n : Thread nD τ) (slotM rxM off inb) (.dma s₁) hsc)} :
    iprop(know m ∗ acct c 0 k 31 ∗ sgP c k (SG m c) ∗ (∃ f, rxP (dn c k) k f) ∗ dutyTok ER (xcell c 0 k) 0 0 ∗ dutyTok ER (xcell (dn c k) 1 k) 0 0)
      ⊢ seen c (.op (.enqueueDma (slotM sgM off inb) (.remote (Dev.tc n : Thread nD τ) (slotM rxM off inb) (.dma s₁) hsc) (.dma s₂) hsrc hdst hsem) .ret)
          fun _ => iprop(acct c 0 (k + 1) 31 ∗ cred (tallyAt (xcell c 0 k) () N)) := by
  subst hn
  unfold acct
  iintro ⟨#HK, ⟨%W, HO⟩, Hs, ⟨%f, Hd⟩, Ht, Ht'⟩
  ihave Hs := (Entails.of_eq (sgP_eq c h inb (SG m c))) $$ Hs
  ihave Hd := (Entails.of_eq (rxP_eq (dn c k) h inb f)) $$ Hd
  iapply (wp_wand_r frame _ Set.univ)
  isplitl [HO Hs Hd Ht Ht']
  · iapply (send_any m c (dn c k) (show 0 < 4 by decide) (show 1 < 4 by decide) hk h₁ h₂ (owed_out c hk) rfl (SG m c) f
      (by rw [← sgP_eq c h inb]; exact BI.Entails.refl _)
      (by
        have e : (rxP (dn c k) k (RX m (dn c k)) : sProp 𝕄) = rxP (dn c k) k ((slotM rxM off inb).view.write (Elt F) f ((slotM sgM off inb).view.read (Elt F) (SG m c)) Finset.univ) := by
          unfold rxP
          exact pointsTo_congr fun i hi => (RX_sent m c k i hi).symm.trans (out_lands h inb f (SG m c) i hi).symm
        rw [← rxP_eq (dn c k) h inb, ← e]; exact BI.Entails.refl _) W)
    isplitr; · iexact HK
    isplitl [HO]; · iexact HO
    isplitl [Hs]; · iexact Hs
    isplitl [Hd]; · iexact Hd
    isplitl [Ht] <;> iassumption
  iintro %_ ⟨HO, Hc⟩
  isplitl [HO]; · iexists W; iexact HO
  iexact Hc

/-- A slot's copy comes back: the slot and the far landing slot are spent, the credit for the send's completion comes back. -/
theorem step_ret (hk : k < 31) (hn : n = up c k) {s₁ s₂ : DmaSem sig} (h₁ : s₁ = dsem 2 k) (h₂ : s₂ = dsem 3 k)
    {hsc : (slotM ryM off inb : Memref sig (Dev.tc n : Thread nD τ).2.kind .vmem S40x512 .bf16).view.ref.isScScratch = false}
    {hsrc : (slotM ysM off inb).view.WordExact} {hdst : (slotM ryM off inb).view.WordExact}
    {hsem : DmaTarget.Typed .vmem (.dma s₂) (.remote (Dev.tc n : Thread nD τ) (slotM ryM off inb) (.dma s₁) hsc)} :
    iprop(know m ∗ acct c k 31 31 ∗ ysP c k (YS m c) ∗ (∃ f, ryP (up c k) k f) ∗ dutyTok ER (xcell c 2 k) 0 0 ∗ dutyTok ER (xcell (up c k) 3 k) 0 0)
      ⊢ seen c (.op (.enqueueDma (slotM ysM off inb) (.remote (Dev.tc n : Thread nD τ) (slotM ryM off inb) (.dma s₁) hsc) (.dma s₂) hsrc hdst hsem) .ret)
          fun _ => iprop(acct c (k + 1) 31 31 ∗ cred (tallyAt (xcell c 2 k) () N)) := by
  subst hn
  unfold acct
  iintro ⟨#HK, ⟨%W, HO⟩, Hs, ⟨%f, Hd⟩, Ht, Ht'⟩
  ihave Hs := (Entails.of_eq (ysP_eq c h inb (YS m c))) $$ Hs
  ihave Hd := (Entails.of_eq (ryP_eq (up c k) h inb f)) $$ Hd
  iapply (wp_wand_r frame _ Set.univ)
  isplitl [HO Hs Hd Ht Ht']
  · iapply (send_any m c (up c k) (show 2 < 4 by decide) (show 3 < 4 by decide) hk h₁ h₂ (owed_ret c hk) rfl (YS m c) f
      (by rw [← ysP_eq c h inb]; exact BI.Entails.refl _)
      (by
        have e : (ryP (up c k) k (RY m (up c k)) : sProp 𝕄) = ryP (up c k) k ((slotM ryM off inb).view.write (Elt F) f ((slotM ysM off inb).view.read (Elt F) (YS m c)) Finset.univ) := by
          unfold ryP
          exact pointsTo_congr fun i hi => (RY_sent m c k i hi).symm.trans (back_lands h inb f (YS m c) i hi).symm
        rw [← ryP_eq (up c k) h inb, ← e]; exact BI.Entails.refl _) W)
    isplitr; · iexact HK
    isplitl [HO]; · iexact HO
    isplitl [Hs]; · iexact Hs
    isplitl [Hd]; · iexact Hd
    isplitl [Ht] <;> iassumption
  iintro %_ ⟨HO, Hc⟩
  isplitl [HO]; · iexists W; iexact HO
  iexact Hc

omit h in
/-- A wait for a transfer on `c`'s own cell `(j, k)`: the payload, and the cell at zero, closed. -/
theorem step_wait {j : ℕ} (hj : j < 4) (hk : k < 31) {src dst : Memref sig .tc .vmem S40x512 .bf16} {s : DmaSem sig} (hs : s = dsem j k)
    {hsrc : src.view.WordExact} {hdst : dst.view.WordExact} (hN : dst.view.dmaCredit = N) {a b d : ℕ}
    (ha : a < 31 → lvl (.dma (dsem j k)) < 3) (hb : b < 31 → lvl (.dma (dsem j k)) < 2) (hd : d < 31 → lvl (.dma (dsem j k)) < 1) :
    iprop(know m ∗ acct c a b d ∗ cred (tallyAt (xcell c j k) () N) ∗ atPos ER (xcell c j k) 0 ∅ 0)
      ⊢ seen c (.op (.waitDma2 s src dst hsrc hdst) .ret)
          fun _ => iprop(acct c a b d ∗ semVal (xcell c j k) 0 ∗ xPay m c j k) := by
  subst hs
  unfold acct
  iintro ⟨#HK, ⟨%W, HO⟩, Hc, Ha⟩
  ihave HI := (inv_x m c hj (show k < 32 by omega)) $$ HK
  icases HI with ⟨%κ, #HI⟩
  iapply (Rounds.wp_wait_rest_token 𝒱₀ ER (rd m) (c : Thread nD τ) none (κ := κ)
      (wpE_waitDma2_eq 𝒱₀ (c : Thread nD τ) none Set.univ) (Set.mem_univ _) () (O := owed c a b d) (W := W) (R := 0) (m := 0) (T := ∅)
      (by rw [Nat.zero_add, expect_x m c hj hk, hN])) $$ [Hc HO Ha]
  · isplitr; · iexact HI
    isplitl [Hc]; · rw [hN]; iexact Hc
    isplitl [HO]; · iexact HO
    isplitr
    · iapply (mayWait_below c (.dma (dsem j k)) _ le_rfl ha hb hd); iapply (levs m); iexact HK
    iexact Ha
  iintro ⟨HO, Ha, -, Hp⟩
  ihave Hp := (Entails.of_eq (rest_x m c hj hk)) $$ Hp
  imod (Rounds.cell_close ER (rd m) (Set.mem_univ κ) (fun h => h) (R := 0 + 1) (duties_later m (xcell c j k))) $$ [Ha] with Hz
  · isplitr; · iexact HI
    iexact Ha
  rw [wp_ret]; imodintro
  isplitl [HO]; · iexists _; iexact HO
  isplitl [Hz] <;> iassumption

end Slots

/-- A cell no round of which has a duty closes at once. -/
theorem close_idle (c : Dev nD) {j : ℕ} (hj : j < 4) :
    iprop(know m ∗ atPos ER (xcell c j 31) 0 ∅ 0) ⊢ |={Set.univ}=> semVal (xcell c j 31) 0 := by
  iintro ⟨#HK, Ha⟩
  ihave HI := (inv_x m c hj (show 31 < 32 by decide)) $$ HK
  icases HI with ⟨%κ, #HI⟩
  iapply (Rounds.cell_close ER (rd m) (Set.mem_univ κ) (fun h => h) (R := 0) (fun r _ => duties_x31 m c hj r))
  isplitr; · iexact HI
  iexact Ha

/-- The barrier wait: every other device's landing slots for what `c` sends, the cell at zero, closed. -/
theorem step_barrier (c : Dev nD) (s : Sem sig) (hs : s = barS) :
    iprop(know m ∗ acct c 0 0 31 ∗ cred (tallyAt (barCell c) () 31) ∗ atPos ER (barCell c) 0 ∅ 0)
      ⊢ seen c (.op (.semWait s (31#32 : BitVec 32).toInt) .ret)
          fun _ => iprop(acct c 0 0 31 ∗ semVal (barCell c) 0 ∗ bigSep (Finset.range 31) fun k => barPay c k) := by
  subst hs
  unfold acct
  iintro ⟨#HK, ⟨%W, HO⟩, Hc, Ha⟩
  ihave HI := (inv_bar m c) $$ HK
  icases HI with ⟨%κ, #HI⟩
  iapply (Rounds.wp_wait_rest_token 𝒱₀ ER (rd m) (c : Thread nD τ) none (κ := κ)
      (wpE_semWait_eq 𝒱₀ (c : Thread nD τ) none Set.univ) (Set.mem_univ _) () (O := owed c 0 0 31) (W := W) (R := 0) (m := 0) (T := ∅)
      (by rw [expect_bar]; decide)) $$ [Hc HO Ha]
  · isplitr; · iexact HI
    isplitl [Hc]; · iexact Hc
    isplitl [HO]; · iexact HO
    isplitr
    · iapply (mayWait_below c (.reg barS) 1 le_rfl (fun _ => by decide) (fun _ => by decide) (fun h => absurd h (by decide)))
      iapply (levs m); iexact HK
    iexact Ha
  iintro ⟨HO, Ha, -, Hp⟩
  ihave Hp := (Entails.of_eq (rest_bar m c)) $$ Hp
  imod (Rounds.cell_close ER (rd m) (Set.mem_univ κ) (fun h => h) (R := 0 + 1) (duties_later m (barCell c))) $$ [Ha] with Hz
  · isplitr; · iexact HI
    iexact Ha
  rw [wp_ret]; imodintro
  isplitl [HO]; · iexists _; iexact HO
  isplitl [Hz] <;> iassumption

end Cert.Exchange

end
-- ==== Proof.Loops.lean ====
/-
The loops, by kind, each over the family of resources its trips consume and produce.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The families -/

variable (c : Dev nD)

def sigA (k : ℕ) : sProp 𝕄 := iprop(dutyTok ER (barCell (dn c k)) 0 k ∗ barPay (dn c k) k)
def outA (k : ℕ) : sProp 𝕄 :=
  iprop(sgP c k (SG m c) ∗ (∃ f, rxP (dn c k) k f) ∗ dutyTok ER (xcell c 0 k) 0 0 ∗ dutyTok ER (xcell (dn c k) 1 k) 0 0)
def retA (k : ℕ) : sProp 𝕄 :=
  iprop(ysP c k (YS m c) ∗ (∃ f, ryP (up c k) k f) ∗ dutyTok ER (xcell c 2 k) 0 0 ∗ dutyTok ER (xcell (up c k) 3 k) 0 0)
def crd (j k : ℕ) : sProp 𝕄 := cred (tallyAt (xcell c j k) () N)
def pos (j k : ℕ) : sProp 𝕄 := atPos ER (xcell c j k) 0 ∅ 0
def zer (j k : ℕ) : sProp 𝕄 := semVal (xcell c j k) 0

/-! ## What one trip is -/

/-- The trip signals `dn c k`. -/
def SigForm (k : ℕ) (p : Prog (TpuEff nD τ sig (Elt F) Λ₀ .tc) Unit) : Prop :=
  ∃ (n : Dev nD) (s : Sem sig), n = dn c k ∧ s = barS ∧ p = .op (.semSignal (Dev.tc n) s (1#32 : BitVec 32).toInt) .ret
/-- The trip sends slot `k` to `dn c k`. -/
def OutForm (k : ℕ) (p : Prog (TpuEff nD τ sig (Elt F) Λ₀ .tc) Unit) : Prop :=
  ∃ (n : Dev nD) (off : Fin 3 → ℕ) (inb : ∀ a, off a + S1x40x512.size a ≤ S32x40x512.size a) (s₁ s₂ : DmaSem sig)
    (hsc : (slotM rxM off inb : Memref sig (Dev.tc n : Thread nD τ).2.kind .vmem S40x512 .bf16).view.ref.isScScratch = false)
    (hsrc : (slotM sgM off inb).view.WordExact) (hdst : (slotM rxM off inb).view.WordExact)
    (hsem : DmaTarget.Typed .vmem (.dma s₂) (.remote (Dev.tc n : Thread nD τ) (slotM rxM off inb) (.dma s₁) hsc)),
    off = ![k, 0, 0] ∧ n = dn c k ∧ s₁ = dsem 0 k ∧ s₂ = dsem 1 k
      ∧ p = .op (.enqueueDma (slotM sgM off inb) (.remote (Dev.tc n : Thread nD τ) (slotM rxM off inb) (.dma s₁) hsc) (.dma s₂) hsrc hdst hsem) .ret
/-- The trip returns slot `k` to `up c k`. -/
def RetForm (k : ℕ) (p : Prog (TpuEff nD τ sig (Elt F) Λ₀ .tc) Unit) : Prop :=
  ∃ (n : Dev nD) (off : Fin 3 → ℕ) (inb : ∀ a, off a + S1x40x512.size a ≤ S32x40x512.size a) (s₁ s₂ : DmaSem sig)
    (hsc : (slotM ryM off inb : Memref sig (Dev.tc n : Thread nD τ).2.kind .vmem S40x512 .bf16).view.ref.isScScratch = false)
    (hsrc : (slotM ysM off inb).view.WordExact) (hdst : (slotM ryM off inb).view.WordExact)
    (hsem : DmaTarget.Typed .vmem (.dma s₂) (.remote (Dev.tc n : Thread nD τ) (slotM ryM off inb) (.dma s₁) hsc)),
    off = ![k, 0, 0] ∧ n = up c k ∧ s₁ = dsem 2 k ∧ s₂ = dsem 3 k
      ∧ p = .op (.enqueueDma (slotM ysM off inb) (.remote (Dev.tc n : Thread nD τ) (slotM ryM off inb) (.dma s₁) hsc) (.dma s₂) hsrc hdst hsem) .ret
/-- The trip waits on cell `(j, k)` for one slot's credit. -/
def WaitForm (j k : ℕ) (p : Prog (TpuEff nD τ sig (Elt F) Λ₀ .tc) Unit) : Prop :=
  ∃ (src dst : Memref sig .tc .vmem S40x512 .bf16) (s : DmaSem sig) (hsrc : src.view.WordExact) (hdst : dst.view.WordExact),
    dst.view.dmaCredit = N ∧ s = dsem j k ∧ p = .op (.waitDma2 s src dst hsrc hdst) .ret

/-! ## The loops -/

section Run
variable {b t : ℕ} {l : Scf.Loop 32} {hok : l.OK} {body : Fin l.trips → Unit → Prog (TpuEff nD τ sig (Elt F) Λ₀ .tc) Unit}
  {α : Type} {kk : Unit → Prog (TpuEff nD τ sig (Elt F) Λ₀ .tc) α}

theorem loop_sig {Q : α → sProp 𝕄} (ht : l.trips = t) (htb : t + b ≤ 31) (hform : ∀ i : Fin l.trips, SigForm c (i.val + b) (body i ⟨⟩)) :
    iprop(know m ∗ acct c 0 0 b ∗ bigSep (Finset.Ico b (t + b)) (sigA c))
      ⊢ iprop(((acct c 0 0 (t + b) ∗ bigSep (Finset.Ico b (t + b)) fun _ => iprop(emp)) -∗ seen c (kk ⟨⟩) Q)
        -∗ seen c (Scf.Loop.for l hok ⟨⟩ body >>= kk) Q) :=
  loop_family m c b t (sigA c) (fun _ => iprop(emp)) (fun k => acct c 0 0 k) l hok ht body fun i => by
    have hi : i.val + b < 31 := by have := i.isLt; omega
    obtain ⟨n, s, hn, hs, hp⟩ := hform i
    rw [hp]; unfold sigA
    iintro H
    iapply (wp_wand_r frame _ Set.univ)
    isplitl [H]; · iapply (step_signal m c n hi hn s hs); iexact H
    iintro %_ H
    isplitl [H]; · iexact H
    iempintro

theorem loop_out {Q : α → sProp 𝕄} (ht : l.trips = t) (htb : t + b ≤ 31) (hform : ∀ i : Fin l.trips, OutForm c (i.val + b) (body i ⟨⟩)) :
    iprop(know m ∗ acct c 0 b 31 ∗ bigSep (Finset.Ico b (t + b)) (outA m c))
      ⊢ iprop(((acct c 0 (t + b) 31 ∗ bigSep (Finset.Ico b (t + b)) (crd c 0)) -∗ seen c (kk ⟨⟩) Q)
        -∗ seen c (Scf.Loop.for l hok ⟨⟩ body >>= kk) Q) :=
  loop_family m c b t (outA m c) (crd c 0) (fun k => acct c 0 k 31) l hok ht body fun i => by
    have hi : i.val + b < 31 := by have := i.isLt; omega
    obtain ⟨n, off, inb, s₁, s₂, hsc, hsrc, hdst, hsem, ho, hn, h₁, h₂, hp⟩ := hform i
    rw [hp]; unfold outA crd
    exact step_out m c n ho inb hi hn h₁ h₂

theorem loop_ret {Q : α → sProp 𝕄} (ht : l.trips = t) (htb : t + b ≤ 31) (hform : ∀ i : Fin l.trips, RetForm c (i.val + b) (body i ⟨⟩)) :
    iprop(know m ∗ acct c b 31 31 ∗ bigSep (Finset.Ico b (t + b)) (retA m c))
      ⊢ iprop(((acct c (t + b) 31 31 ∗ bigSep (Finset.Ico b (t + b)) (crd c 2)) -∗ seen c (kk ⟨⟩) Q)
        -∗ seen c (Scf.Loop.for l hok ⟨⟩ body >>= kk) Q) :=
  loop_family m c b t (retA m c) (crd c 2) (fun k => acct c k 31 31) l hok ht body fun i => by
    have hi : i.val + b < 31 := by have := i.isLt; omega
    obtain ⟨n, off, inb, s₁, s₂, hsc, hsrc, hdst, hsem, ho, hn, h₁, h₂, hp⟩ := hform i
    rw [hp]; unfold retA crd
    exact step_ret m c n ho inb hi hn h₁ h₂

theorem loop_wait {Q : α → sProp 𝕄} {j : ℕ} (hj : j < 4) {x y z : ℕ} (hx : x < 31 → j < 3) (hy : y < 31 → j ≠ 1 ∧ j ≠ 3) (hz : z < 31 → j ≠ 1 ∧ j ≠ 3)
    (ht : l.trips = t) (htb : t + b ≤ 31) (hform : ∀ i : Fin l.trips, WaitForm j (i.val + b) (body i ⟨⟩)) :
    iprop(know m ∗ acct c x y z ∗ bigSep (Finset.Ico b (t + b)) (crd c j) ∗ bigSep (Finset.Ico b (t + b)) (pos c j))
      ⊢ iprop(((acct c x y z ∗ bigSep (Finset.Ico b (t + b)) (zer c j) ∗ bigSep (Finset.Ico b (t + b)) (xPay m c j)) -∗ seen c (kk ⟨⟩) Q)
        -∗ seen c (Scf.Loop.for l hok ⟨⟩ body >>= kk) Q) := by
  rw [← bigSep_sep', ← bigSep_sep']
  exact loop_family m c b t (fun k => iprop(crd c j k ∗ pos c j k)) (fun k => iprop(zer c j k ∗ xPay m c j k)) (fun _ => acct c x y z) l hok ht body fun i => by
    have hi : i.val + b < 31 := by have := i.isLt; omega
    obtain ⟨src, dst, s, hsrc, hdst, hN, hs, hp⟩ := hform i
    have hl := lvl_x hj (show i.val + b < 32 by omega)
    rw [hp]; unfold crd pos zer
    exact step_wait m c hj hi hs hN (fun h => by have := hx h; rw [hl]; split_ifs <;> omega)
      (fun h => by have := hy h; rw [hl]; split_ifs <;> omega) (fun h => by have := hz h; rw [hl]; split_ifs <;> omega)

end Run

end Cert.Exchange

end
-- ==== Proof.Slots.lean ====
/-
A buffer as its slots, and the hand-over at the barrier.
-/
module

public import proofs.«01_k».proof.Proof.Loops

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Slots `a ≤ k < b` of a buffer are its slots one by one -/

section Regions
variable (a b : ℕ) (f : Vec F S32x40x512 .bf16)

theorem loc_slots (ℓ : Loc nD τ sig) (K : ℕ → Finset (Idx ℓ)) (S : Finset (Idx ℓ)) (hS : ∀ i, i ∈ S ↔ ∃ k ∈ Finset.Ico a b, i ∈ K k)
    (hK : ∀ k k', k ≠ k' → Disjoint (K k) (K k')) (g : Buf (Elt F) ℓ) :
    (ℓ ↦[S]{fullShare} g : sProp 𝕄) = bigSep (Finset.Ico a b) fun k => ℓ ↦[K k]{fullShare} g := by
  rw [← pointsTo_biUnion _ K fun t _ t' _ h => hK t t' h]
  congr 1; ext i; rw [hS, Finset.mem_biUnion]

theorem slots_iff (i : S32x40x512.Idx) : i ∈ slots a b ↔ ∃ k ∈ Finset.Ico a b, i ∈ slot k := by
  rw [← slots_biUnion, Finset.mem_biUnion]

theorem sg_slots : (((c : Thread nD τ).loc cc0_scratch0) ↦[slots a b]{fullShare} f : sProp 𝕄) = bigSep (Finset.Ico a b) fun k => sgP c k f :=
  loc_slots a b ((c : Thread nD τ).loc cc0_scratch0) slot (slots a b) (slots_iff a b) (fun _ _ => slot_disjoint) f
theorem rx_slots : (((c : Thread nD τ).loc cc0_scratch1) ↦[slots a b]{fullShare} f : sProp 𝕄) = bigSep (Finset.Ico a b) fun k => rxP c k f :=
  loc_slots a b ((c : Thread nD τ).loc cc0_scratch1) slot (slots a b) (slots_iff a b) (fun _ _ => slot_disjoint) f
theorem ys_slots : (((c : Thread nD τ).loc cc0_scratch2) ↦[slots a b]{fullShare} f : sProp 𝕄) = bigSep (Finset.Ico a b) fun k => ysP c k f :=
  loc_slots a b ((c : Thread nD τ).loc cc0_scratch2) slot (slots a b) (slots_iff a b) (fun _ _ => slot_disjoint) f
theorem ry_slots : (((c : Thread nD τ).loc cc0_scratch3) ↦[slots a b]{fullShare} f : sProp 𝕄) = bigSep (Finset.Ico a b) fun k => ryP c k f :=
  loc_slots a b ((c : Thread nD τ).loc cc0_scratch3) slot (slots a b) (slots_iff a b) (fun _ _ => slot_disjoint) f

theorem sg_whole : (((c : Thread nD τ).loc cc0_scratch0) ↦{fullShare} f : sProp 𝕄) = bigSep (Finset.Ico 0 32) fun k => sgP c k f := by
  rw [← sg_slots, slots_all]
theorem rx_whole : (((c : Thread nD τ).loc cc0_scratch1) ↦{fullShare} f : sProp 𝕄) = bigSep (Finset.Ico 0 32) fun k => rxP c k f := by
  rw [← rx_slots, slots_all]
theorem ys_whole : (((c : Thread nD τ).loc cc0_scratch2) ↦{fullShare} f : sProp 𝕄) = bigSep (Finset.Ico 0 32) fun k => ysP c k f := by
  rw [← ys_slots, slots_all]
theorem ry_whole : (((c : Thread nD τ).loc cc0_scratch3) ↦{fullShare} f : sProp 𝕄) = bigSep (Finset.Ico 0 32) fun k => ryP c k f := by
  rw [← ry_slots, slots_all]

end Regions

/-! ## Runs of numbers -/

omit [FloatOps F] in
theorem run_cut (Φ : ℕ → sProp 𝕄) {a b d : ℕ} (h : a ≤ b) (h' : b ≤ d) :
    bigSep (Finset.Ico a d) Φ = iprop(bigSep (Finset.Ico a b) Φ ∗ bigSep (Finset.Ico b d) Φ) := by
  rw [← Finset.Ico_union_Ico_eq_Ico h h', bigSep_union (Finset.Ico_disjoint_Ico_consecutive a b d)]; rfl
omit [FloatOps F] in
/-- The four chunks of the thirty-one. -/
theorem run_four (Φ : ℕ → sProp 𝕄) : bigSep (Finset.Ico 0 31) Φ
    = iprop(bigSep (Finset.Ico 0 8) Φ ∗ bigSep (Finset.Ico 8 16) Φ ∗ bigSep (Finset.Ico 16 24) Φ ∗ bigSep (Finset.Ico 24 31) Φ) := by
  rw [run_cut Φ (show 0 ≤ 8 by decide) (show 8 ≤ 31 by decide), run_cut Φ (show 8 ≤ 16 by decide) (show 16 ≤ 31 by decide),
    run_cut Φ (show 16 ≤ 24 by decide) (show 24 ≤ 31 by decide)]
omit [FloatOps F] in
theorem run_last (Φ : ℕ → sProp 𝕄) : bigSep (Finset.Ico 0 32) Φ = iprop(bigSep (Finset.Ico 0 31) Φ ∗ Φ 31) := by
  rw [run_cut Φ (show 0 ≤ 31 by decide) (show 31 ≤ 32 by decide), bigSep_Ico_one]
omit [FloatOps F] in
theorem run_chunk (Φ : ℕ → sProp 𝕄) : bigSep (Finset.Ico 24 32) Φ = iprop(bigSep (Finset.Ico 24 31) Φ ∗ Φ 31) := by
  rw [run_cut Φ (show 24 ≤ 31 by decide) (show 31 ≤ 32 by decide), bigSep_Ico_one]
omit [FloatOps F] in
/-- The thirty-one counted down. -/
theorem run_rev (Φ : ℕ → sProp 𝕄) : bigSep (Finset.Ico 0 31) (fun k => Φ (30 - k)) = bigSep (Finset.Ico 0 31) Φ := by
  have e : Finset.Ico 0 31 = (Finset.Ico 0 31).image fun k => 30 - k := by decide
  conv_rhs => rw [e, bigSep_image_of_injOn (fun x hx y hy h => by
    have hx' := Finset.mem_Ico.mp hx; have hy' := Finset.mem_Ico.mp hy; have h' : 30 - x = 30 - y := h; omega)]

/-! ## The hand-over -/

/-- What a device signals with: its landing slots, each for the device that will fill it. -/
theorem sigA_intro (f g : Vec F S32x40x512 .bf16) :
    iprop(bigSep (Finset.Ico 0 31) (fun k => dutyTok ER (barCell (dn c k)) 0 k) ∗ bigSep (Finset.Ico 0 31) (fun k => rxP c k f)
      ∗ bigSep (Finset.Ico 0 31) (fun k => ryP c k g)) ⊢ bigSep (Finset.Ico 0 31) (sigA c) := by
  rw [← run_rev fun k => rxP c k f, ← bigSep_sep', ← bigSep_sep']
  refine bigSep_mono fun k hk => ?_
  unfold sigA barPay
  rw [up_dn]
  show iprop(dutyTok ER (barCell (dn c k)) 0 k ∗ rxP c (30 - k) f ∗ ryP c k g) ⊢ (iprop(dutyTok ER (barCell (dn c k)) 0 k ∗ (∃ f, rxP c (30 - k) f) ∗ ∃ f, ryP c k f) : sProp 𝕄)
  iintro ⟨Ht, Hx, Hy⟩
  isplitl [Ht]; · iexact Ht
  isplitl [Hx]
  · iexists f; iexact Hx
  · iexists g; iexact Hy

/-- What the barrier wait brings: the landing slots of what the device sends and returns. -/
theorem barPay_elim : (bigSep (Finset.range 31) fun k => (barPay c k : sProp 𝕄))
    ⊢ iprop(bigSep (Finset.Ico 0 31) (fun k => iprop(∃ f, rxP (dn c k) k f)) ∗ bigSep (Finset.Ico 0 31) (fun k => iprop(∃ f, ryP (up c k) k f))) := by
  unfold barPay
  rw [Finset.range_eq_Ico, bigSep_sep']
  rw [← run_rev fun k => (iprop(∃ f, rxP (dn c k) k f) : sProp 𝕄)]
  rw [bigSep_congr (s := Finset.Ico 0 31) (Φ := fun k => (iprop(∃ f, rxP (up c k) (30 - k) f) : sProp 𝕄))
    (Ψ := fun k => iprop(∃ f, rxP (dn c (30 - k)) (30 - k) f)) fun k hk => by rw [dn_rev c (by have := Finset.mem_Ico.mp hk; omega)]]

theorem outA_intro (a b : ℕ) : bigSep (Finset.Ico a b) (outA m c)
    = iprop(bigSep (Finset.Ico a b) (fun k => sgP c k (SG m c)) ∗ bigSep (Finset.Ico a b) (fun k => iprop(∃ f, rxP (dn c k) k f))
      ∗ bigSep (Finset.Ico a b) (fun k => dutyTok ER (xcell c 0 k) 0 0) ∗ bigSep (Finset.Ico a b) (fun k => dutyTok ER (xcell (dn c k) 1 k) 0 0)) := by
  unfold outA; rw [bigSep_sep', bigSep_sep', bigSep_sep']
theorem retA_intro (a b : ℕ) : bigSep (Finset.Ico a b) (retA m c)
    = iprop(bigSep (Finset.Ico a b) (fun k => ysP c k (YS m c)) ∗ bigSep (Finset.Ico a b) (fun k => iprop(∃ f, ryP (up c k) k f))
      ∗ bigSep (Finset.Ico a b) (fun k => dutyTok ER (xcell c 2 k) 0 0) ∗ bigSep (Finset.Ico a b) (fun k => dutyTok ER (xcell (up c k) 3 k) 0 0)) := by
  unfold retA; rw [bigSep_sep', bigSep_sep', bigSep_sep']

end Cert.Exchange

end
-- ==== Proof.Forms.lean ====
/-
The body at its own buffers, and what each loop's trip is.
-/
module

public import proofs.«01_k».proof.Proof.Slots

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body, at the buffers and semaphores it runs on. -/
abbrev withArgs {β : Sort*} (f : (arg0 : Memref sig .tc .vmem S512x512 .bf16) → arg0.IsWhole → (arg1 : Memref sig .tc .vmem S512 .i32) → arg1.IsWhole → (arg2 : Memref sig .tc .vmem S2x512x1024 .bf16) → arg2.IsWhole → (arg3 : Memref sig .tc .vmem S2x1024x512 .bf16) → arg3.IsWhole → (arg4 : Memref sig .tc .vmem S512x512 .f32) → arg4.IsWhole → (arg5 : Memref sig .tc .vmem S32x40x512 .bf16) → arg5.IsWhole → (arg6 : Memref sig .tc .vmem S32x40x512 .bf16) → arg6.IsWhole → (arg7 : Memref sig .tc .vmem S32x40x512 .bf16) → arg7.IsWhole → (arg8 : Memref sig .tc .vmem S32x40x512 .bf16) → arg8.IsWhole → (arg9 : Memref sig .tc .vmem S2x512x1024 .bf16) → arg9.IsWhole → (arg10 : Memref sig .tc .vmem S2x1024x512 .bf16) → arg10.IsWhole → (arg11 : Memref sig .tc .vmem S512x512 .bf16) → arg11.IsWhole → DmaSems sig S32 → DmaSems sig S32 → DmaSems sig S32 → DmaSems sig S32 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10

variable (c : Dev nD) (v2 c0 : BitVec 32) (v102 : FVec F S512x1280 .bf16) (v183 : FVec F S160x1024 .bf16)

/-- The barrier semaphore as the program names it. -/
abbrev barM : Sems sig S_ := SemArray.scalar (sig.barrier 0 rfl)

theorem form1 (v20 v28 v41 v44 v79 v80) (i : Fin k0_t1_loop.trips) :
    SigForm (F := F) c (i.val + 0) (withArgs (k0_t1_body (F := F)) c v2 v20 v28 v41 v44 v79 v80 barM i ⟨⟩) :=
  ⟨_, _, Fin.ext (by have := k0_dev1_eq c i; show k0_dev1 c i = (c.val + (i.val + 0) + 1) % 32; omega), rfl, rfl⟩

theorem trips2 : k0_t2_loop.trips = 8 := by decide +kernel
theorem lt2 (i : Fin k0_t2_loop.trips) : i.val + 0 < 32 := by have := trips2; omega
theorem form2 (i : Fin k0_t2_loop.trips) : OutForm (F := F) c (i.val + 0) (withArgs (k0_t2_body (F := F)) c v2 c0 i ⟨⟩) :=
  ⟨_, k0_off2 i, k0_off2_inb i, _, _, _, _, _, _, k0_off2_eq i, Fin.ext (by have := k0_dev2_eq c i; show k0_dev2 c i = (c.val + (i.val + 0) + 1) % 32; omega),
    sem_fs (k0_off1_eq i) (lt2 i) _, sem_fr (k0_off1_eq i) (lt2 i) _, rfl⟩
theorem trips3 : k0_t3_loop.trips = 8 := by decide +kernel
theorem lt3 (i : Fin k0_t3_loop.trips) : i.val + 0 < 32 := by have := trips3; omega
theorem form3 (i : Fin k0_t3_loop.trips) : WaitForm (F := F) 0 (i.val + 0) (withArgs (k0_t3_body (F := F)) c v2 c0 i ⟨⟩) :=
  ⟨_, _, _, _, _, credit_sg, sem_fs (k0_off3_eq i) (lt3 i) _, rfl⟩
theorem trips4 : k0_t4_loop.trips = 8 := by decide +kernel
theorem lt4 (i : Fin k0_t4_loop.trips) : i.val + 8 < 32 := by have := trips4; omega
theorem form4 (i : Fin k0_t4_loop.trips) : OutForm (F := F) c (i.val + 8) (withArgs (k0_t4_body (F := F)) c v2 c0 i ⟨⟩) :=
  ⟨_, k0_off6 i, k0_off6_inb i, _, _, _, _, _, _, k0_off6_eq i, Fin.ext (by have := k0_dev3_eq c i; show k0_dev3 c i = (c.val + (i.val + 8) + 1) % 32; omega),
    sem_fs (k0_off5_eq i) (lt4 i) _, sem_fr (k0_off5_eq i) (lt4 i) _, rfl⟩
theorem trips5 : k0_t5_loop.trips = 8 := by decide +kernel
theorem lt5 (i : Fin k0_t5_loop.trips) : i.val + 8 < 32 := by have := trips5; omega
theorem form5 (i : Fin k0_t5_loop.trips) : WaitForm (F := F) 0 (i.val + 8) (withArgs (k0_t5_body (F := F)) c v2 c0 i ⟨⟩) :=
  ⟨_, _, _, _, _, credit_sg, sem_fs (k0_off7_eq i) (lt5 i) _, rfl⟩
theorem trips6 : k0_t6_loop.trips = 8 := by decide +kernel
theorem lt6 (i : Fin k0_t6_loop.trips) : i.val + 16 < 32 := by have := trips6; omega
theorem form6 (i : Fin k0_t6_loop.trips) : OutForm (F := F) c (i.val + 16) (withArgs (k0_t6_body (F := F)) c v2 c0 i ⟨⟩) :=
  ⟨_, k0_off10 i, k0_off10_inb i, _, _, _, _, _, _, k0_off10_eq i, Fin.ext (by have := k0_dev4_eq c i; show k0_dev4 c i = (c.val + (i.val + 16) + 1) % 32; omega),
    sem_fs (k0_off9_eq i) (lt6 i) _, sem_fr (k0_off9_eq i) (lt6 i) _, rfl⟩
theorem trips7 : k0_t7_loop.trips = 8 := by decide +kernel
theorem lt7 (i : Fin k0_t7_loop.trips) : i.val + 16 < 32 := by have := trips7; omega
theorem form7 (i : Fin k0_t7_loop.trips) : WaitForm (F := F) 0 (i.val + 16) (withArgs (k0_t7_body (F := F)) c v2 c0 i ⟨⟩) :=
  ⟨_, _, _, _, _, credit_sg, sem_fs (k0_off11_eq i) (lt7 i) _, rfl⟩
theorem trips8 : k0_t8_loop.trips = 7 := by decide +kernel
theorem lt8 (i : Fin k0_t8_loop.trips) : i.val + 24 < 32 := by have := trips8; omega
theorem form8 (i : Fin k0_t8_loop.trips) : OutForm (F := F) c (i.val + 24) (withArgs (k0_t8_body (F := F)) c v2 c0 i ⟨⟩) :=
  ⟨_, k0_off14 i, k0_off14_inb i, _, _, _, _, _, _, k0_off14_eq i, Fin.ext (by have := k0_dev5_eq c i; show k0_dev5 c i = (c.val + (i.val + 24) + 1) % 32; omega),
    sem_fs (k0_off13_eq i) (lt8 i) _, sem_fr (k0_off13_eq i) (lt8 i) _, rfl⟩
theorem trips9 : k0_t9_loop.trips = 7 := by decide +kernel
theorem lt9 (i : Fin k0_t9_loop.trips) : i.val + 24 < 32 := by have := trips9; omega
theorem form9 (i : Fin k0_t9_loop.trips) : WaitForm (F := F) 0 (i.val + 24) (withArgs (k0_t9_body (F := F)) c v2 c0 i ⟨⟩) :=
  ⟨_, _, _, _, _, credit_sg, sem_fs (k0_off15_eq i) (lt9 i) _, rfl⟩
theorem trips10 : k0_t10_loop.trips = 8 := by decide +kernel
theorem lt10 (i : Fin k0_t10_loop.trips) : i.val + 0 < 32 := by have := trips10; omega
theorem form10 (i : Fin k0_t10_loop.trips) : WaitForm (F := F) 1 (i.val + 0) (withArgs (k0_t10_body (F := F)) c v2 c0 i ⟨⟩) :=
  ⟨_, _, _, _, _, credit_rx, sem_fr (k0_off17_eq i) (lt10 i) _, rfl⟩
theorem trips11 : k0_t11_loop.trips = 8 := by decide +kernel
theorem lt11 (i : Fin k0_t11_loop.trips) : i.val + 0 < 32 := by have := trips11; omega
theorem form11 (i : Fin k0_t11_loop.trips) : RetForm (F := F) c (i.val + 0) (withArgs (k0_t11_body (F := F)) c v2 c0 i ⟨⟩) :=
  ⟨_, k0_off20 i, k0_off20_inb i, _, _, _, _, _, _, k0_off20_eq i, Fin.ext (by have := k0_dev6_eq c i; have := lt11 i; show k0_dev6 c i = (c.val + (31 + 31 * (i.val + 0))) % 32; omega),
    sem_rs (k0_off19_eq i) (lt11 i) _, sem_rr (k0_off19_eq i) (lt11 i) _, rfl⟩
theorem trips12 : k0_t12_loop.trips = 8 := by decide +kernel
theorem lt12 (i : Fin k0_t12_loop.trips) : i.val + 8 < 32 := by have := trips12; omega
theorem form12 (i : Fin k0_t12_loop.trips) : WaitForm (F := F) 1 (i.val + 8) (withArgs (k0_t12_body (F := F)) c v2 c0 i ⟨⟩) :=
  ⟨_, _, _, _, _, credit_rx, sem_fr (k0_off21_eq i) (lt12 i) _, rfl⟩
theorem trips13 : k0_t13_loop.trips = 8 := by decide +kernel
theorem lt13 (i : Fin k0_t13_loop.trips) : i.val + 8 < 32 := by have := trips13; omega
theorem form13 (i : Fin k0_t13_loop.trips) : RetForm (F := F) c (i.val + 8) (withArgs (k0_t13_body (F := F)) c v2 v183 i ⟨⟩) :=
  ⟨_, k0_off24 i, k0_off24_inb i, _, _, _, _, _, _, k0_off24_eq i, Fin.ext (by have := k0_dev7_eq c i; have := lt13 i; show k0_dev7 c i = (c.val + (31 + 31 * (i.val + 8))) % 32; omega),
    sem_rs (k0_off23_eq i) (lt13 i) _, sem_rr (k0_off23_eq i) (lt13 i) _, rfl⟩
theorem trips14 : k0_t14_loop.trips = 8 := by decide +kernel
theorem lt14 (i : Fin k0_t14_loop.trips) : i.val + 16 < 32 := by have := trips14; omega
theorem form14 (i : Fin k0_t14_loop.trips) : WaitForm (F := F) 1 (i.val + 16) (withArgs (k0_t14_body (F := F)) c v2 v183 i ⟨⟩) :=
  ⟨_, _, _, _, _, credit_rx, sem_fr (k0_off25_eq i) (lt14 i) _, rfl⟩
theorem trips15 : k0_t15_loop.trips = 8 := by decide +kernel
theorem lt15 (i : Fin k0_t15_loop.trips) : i.val + 16 < 32 := by have := trips15; omega
theorem form15 (i : Fin k0_t15_loop.trips) : RetForm (F := F) c (i.val + 16) (withArgs (k0_t15_body (F := F)) c v2 i ⟨⟩) :=
  ⟨_, k0_off28 i, k0_off28_inb i, _, _, _, _, _, _, k0_off28_eq i, Fin.ext (by have := k0_dev8_eq c i; have := lt15 i; show k0_dev8 c i = (c.val + (31 + 31 * (i.val + 16))) % 32; omega),
    sem_rs (k0_off27_eq i) (lt15 i) _, sem_rr (k0_off27_eq i) (lt15 i) _, rfl⟩
theorem trips16 : k0_t16_loop.trips = 7 := by decide +kernel
theorem lt16 (i : Fin k0_t16_loop.trips) : i.val + 24 < 32 := by have := trips16; omega
theorem form16 (i : Fin k0_t16_loop.trips) : WaitForm (F := F) 1 (i.val + 24) (withArgs (k0_t16_body (F := F)) c v2 i ⟨⟩) :=
  ⟨_, _, _, _, _, credit_rx, sem_fr (k0_off29_eq i) (lt16 i) _, rfl⟩
theorem trips17 : k0_t17_loop.trips = 7 := by decide +kernel
theorem lt17 (i : Fin k0_t17_loop.trips) : i.val + 24 < 32 := by have := trips17; omega
theorem form17 (i : Fin k0_t17_loop.trips) : RetForm (F := F) c (i.val + 24) (withArgs (k0_t17_body (F := F)) c v2 v102 c0 i ⟨⟩) :=
  ⟨_, k0_off32 i, k0_off32_inb i, _, _, _, _, _, _, k0_off32_eq i, Fin.ext (by have := k0_dev9_eq c i; have := lt17 i; show k0_dev9 c i = (c.val + (31 + 31 * (i.val + 24))) % 32; omega),
    sem_rs (k0_off31_eq i) (lt17 i) _, sem_rr (k0_off31_eq i) (lt17 i) _, rfl⟩
theorem trips18 : k0_t18_loop.trips = 8 := by decide +kernel
theorem lt18 (i : Fin k0_t18_loop.trips) : i.val + 0 < 32 := by have := trips18; omega
theorem form18 (i : Fin k0_t18_loop.trips) : WaitForm (F := F) 3 (i.val + 0) (withArgs (k0_t18_body (F := F)) c v2 v102 c0 i ⟨⟩) :=
  ⟨_, _, _, _, _, credit_ry, sem_rr (k0_off33_eq i) (lt18 i) _, rfl⟩
theorem trips19 : k0_t19_loop.trips = 8 := by decide +kernel
theorem lt19 (i : Fin k0_t19_loop.trips) : i.val + 8 < 32 := by have := trips19; omega
theorem form19 (i : Fin k0_t19_loop.trips) : WaitForm (F := F) 3 (i.val + 8) (withArgs (k0_t19_body (F := F)) c v2 v102 c0 i ⟨⟩) :=
  ⟨_, _, _, _, _, credit_ry, sem_rr (k0_off35_eq i) (lt19 i) _, rfl⟩
theorem trips20 : k0_t20_loop.trips = 8 := by decide +kernel
theorem lt20 (i : Fin k0_t20_loop.trips) : i.val + 16 < 32 := by have := trips20; omega
theorem form20 (i : Fin k0_t20_loop.trips) : WaitForm (F := F) 3 (i.val + 16) (withArgs (k0_t20_body (F := F)) c v2 v102 c0 i ⟨⟩) :=
  ⟨_, _, _, _, _, credit_ry, sem_rr (k0_off37_eq i) (lt20 i) _, rfl⟩
theorem trips21 : k0_t21_loop.trips = 7 := by decide +kernel
theorem lt21 (i : Fin k0_t21_loop.trips) : i.val + 24 < 32 := by have := trips21; omega
theorem form21 (i : Fin k0_t21_loop.trips) : WaitForm (F := F) 3 (i.val + 24) (withArgs (k0_t21_body (F := F)) i ⟨⟩) :=
  ⟨_, _, _, _, _, credit_ry, sem_rr (k0_off39_eq i) (lt21 i) _, rfl⟩
theorem trips22 : k0_t22_loop.trips = 31 := by decide +kernel
theorem lt22 (i : Fin k0_t22_loop.trips) : i.val + 0 < 32 := by have := trips22; omega
theorem form22 (i : Fin k0_t22_loop.trips) : WaitForm (F := F) 2 (i.val + 0) (withArgs (k0_t22_body (F := F)) i ⟨⟩) :=
  ⟨_, _, _, _, _, credit_ys, sem_rs (k0_off41_eq i) (lt22 i) _, rfl⟩
theorem trips1 : k0_t1_loop.trips = 31 := by decide +kernel

end Cert.Exchange

end
-- ==== Proof.Ops.lean ====
/-
What one load or store of the body does to the buffers a device holds.
-/
module

public import proofs.«01_k».proof.Proof.Forms

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What is held -/

def sgR (a b : ℕ) (f : Vec F S32x40x512 .bf16) : sProp 𝕄 := ((c : Thread nD τ).loc cc0_scratch0) ↦[slots a b]{fullShare} f
def rxR (a b : ℕ) (f : Vec F S32x40x512 .bf16) : sProp 𝕄 := ((c : Thread nD τ).loc cc0_scratch1) ↦[slots a b]{fullShare} f
def ysR (a b : ℕ) (f : Vec F S32x40x512 .bf16) : sProp 𝕄 := ((c : Thread nD τ).loc cc0_scratch2) ↦[slots a b]{fullShare} f
def ryR (a b : ℕ) (f : Vec F S32x40x512 .bf16) : sProp 𝕄 := ((c : Thread nD τ).loc cc0_scratch3) ↦[slots a b]{fullShare} f
def w1P (w : Vec F S2x512x1024 .bf16) : sProp 𝕄 := ((c : Thread nD τ).loc cc0_scratch4) ↦{fullShare} w
def w2P (w : Vec F S2x1024x512 .bf16) : sProp 𝕄 := ((c : Thread nD τ).loc cc0_scratch5) ↦{fullShare} w
def xbP (w : Vec F S512x512 .bf16) : sProp 𝕄 := ((c : Thread nD τ).loc cc0_scratch6) ↦{fullShare} w
def xP (w : Vec F S512x512 .bf16) : sProp 𝕄 := ((c : Thread nD τ).loc cc0_stg0_0) ↦{fullShare} w
def asP (w : Vec F S512 .i32) : sProp 𝕄 := ((c : Thread nD τ).loc cc0_stg1_0) ↦{fullShare} w
def waP (w : Vec F S2x512x1024 .bf16) : sProp 𝕄 := ((c : Thread nD τ).loc cc0_stg2_0) ↦{fullShare} w
def wbP (w : Vec F S2x1024x512 .bf16) : sProp 𝕄 := ((c : Thread nD τ).loc cc0_stg3_0) ↦{fullShare} w
def sgW (w : Vec F S32x40x512 .bf16) : sProp 𝕄 := ((c : Thread nD τ).loc cc0_scratch0) ↦{fullShare} w
def outP (w : Vec F S512x512 .f32) : sProp 𝕄 := ((c : Thread nD τ).loc cc0_stg4_0) ↦{fullShare} w

/-- The chunk from slot `8 * q` with its lower half-rows computed. -/
def halfway (q : ℕ) : sProp 𝕄 := iprop(∃ (g : Vec F S32x40x512 .bf16) (inb0 : ∀ a, (![8 * q, 0, 0] : Fin 3 → ℕ) a + S8x20x512.size a ≤ S32x40x512.size a),
  ysR c (8 * q) (8 * q + 8) ((ysHalf (8 * q) 0 inb0).write (Elt F) g
    (k0_pay20 (half (RX m c) (8 * q) 0) (slab1 (k0_pay4 (Wa m c)) 0) (slab2 (k0_pay5 (Wb m c)) 0)) Finset.univ))

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

section Ops
variable {α : Type}

/-- A load of a part of a buffer, with what is read given by name. -/
theorem load_part {sh : Shape} {e : EltTy} (M : Memref sig .tc .vmem sh e) {r : Rect sh} {hl : M.view.LoadsAt r.toLoadRect}
    {kk : (r.shape.Idx → Elt F e) → Prog (TpuEff nD τ sig (Elt F) Λ₀ .tc) α} {Q : α → sProp 𝕄} (S : Finset (Idx ((M.access r).loc (c : Thread nD τ))))
    (f : Buf (Elt F) ((M.access r).loc (c : Thread nD τ))) (v : r.shape.Idx → Elt F e)
    (hS : (M.access r).set ⊆ S) (hv : M.view.readAt (Elt F) r.toLoadRect f = v) :
    ((M.access r).loc (c : Thread nD τ) ↦[S]{fullShare} f) ⊢ iprop((((M.access r).loc (c : Thread nD τ) ↦[S]{fullShare} f) -∗ seen c (kk v) Q)
      -∗ seen c (.op (.load M r.toLoadRect hl) kk) Q) := by
  subst hv
  exact wp_load_rect 𝒱₀ (c : Thread nD τ) none Set.univ hS

/-- A store into a part of a buffer, with what is held afterwards given by name. -/
theorem store_part {sh : Shape} {e : EltTy} (M : Memref sig .tc .vmem sh e) {r : Rect sh} {w : r.shape.Idx → Elt F e}
    {hx : (M.access r).Stores Finset.univ} {hm : (Finset.univ : Finset r.shape.Idx) = Finset.univ ∨ ∀ a, r.stride a = 1}
    {kk : PUnit → Prog (TpuEff nD τ sig (Elt F) Λ₀ .tc) α} {Q : α → sProp 𝕄} (S : Finset (Idx ((M.access r).loc (c : Thread nD τ))))
    (f : Buf (Elt F) ((M.access r).loc (c : Thread nD τ))) (P' : sProp 𝕄) (hS : (M.access r).set ⊆ S)
    (hP' : ((M.access r).loc (c : Thread nD τ) ↦[S]{fullShare} ((M.access r).write (Elt F) f w Finset.univ)) ⊢ P') :
    ((M.access r).loc (c : Thread nD τ) ↦[S]{fullShare} f)
      ⊢ iprop((P' -∗ seen c (kk ⟨⟩) Q) -∗ seen c (.op (.store M r w Finset.univ hx hm) kk) Q) :=
  (wp_store 𝒱₀ (c : Thread nD τ) none Set.univ hS).trans (wand_mono_left (wand_mono_left hP'))

theorem load_half {Q : α → sProp 𝕄} {o p : ℕ} {inb : ∀ a, (![o, p, 0] : Fin 3 → ℕ) a + S8x20x512.size a ≤ S32x40x512.size a} {hl}
    {kk : Vec F S8x20x512 .bf16 → Prog (TpuEff nD τ sig (Elt F) Λ₀ .tc) α} (f : Vec F S32x40x512 .bf16) :
    rxR c o (o + 8) f ⊢ iprop((rxR c o (o + 8) f -∗ seen c (kk (half f o p)) Q)
      -∗ seen c (.op (.load rxM (Rect.unit (s := S32x40x512) ![o, p, 0] S8x20x512.size inb).toLoadRect hl) kk) Q) := by
  have h := load_part c rxM (r := Rect.unit (s := S32x40x512) ![o, p, 0] S8x20x512.size inb) (hl := hl) (kk := kk) (Q := Q) (slots o (o + 8)) f (half f o p)
    ((View.set_slice_whole cc0_scratch1 _).trans_subset (rect_slots (n := 8) (w := 20) rfl rfl inb)) (read_half_rx inb f)
  exact h

theorem load_slab1 {Q : α → sProp 𝕄} {e : ℕ} {inb : ∀ a, (![e, 0, 0] : Fin 3 → ℕ) a + S1x512x1024.size a ≤ S2x512x1024.size a} {hl}
    {kk : Vec F S1x512x1024 .bf16 → Prog (TpuEff nD τ sig (Elt F) Λ₀ .tc) α} (f : Vec F S2x512x1024 .bf16) :
    w1P c f ⊢ iprop((w1P c f -∗ seen c (kk (slab1 f e)) Q)
      -∗ seen c (.op (.load waM (Rect.unit (s := S2x512x1024) ![e, 0, 0] S1x512x1024.size inb).toLoadRect hl) kk) Q) := by
  have h := load_part c waM (r := Rect.unit (s := S2x512x1024) ![e, 0, 0] S1x512x1024.size inb) (hl := hl) (kk := kk) (Q := Q) Finset.univ f (slab1 f e)
    (Finset.subset_univ _) (read_slab1 inb f)
  exact h

theorem load_slab2 {Q : α → sProp 𝕄} {e : ℕ} {inb : ∀ a, (![e, 0, 0] : Fin 3 → ℕ) a + S1x1024x512.size a ≤ S2x1024x512.size a} {hl}
    {kk : Vec F S1x1024x512 .bf16 → Prog (TpuEff nD τ sig (Elt F) Λ₀ .tc) α} (f : Vec F S2x1024x512 .bf16) :
    w2P c f ⊢ iprop((w2P c f -∗ seen c (kk (slab2 f e)) Q)
      -∗ seen c (.op (.load wbM (Rect.unit (s := S2x1024x512) ![e, 0, 0] S1x1024x512.size inb).toLoadRect hl) kk) Q) := by
  have h := load_part c wbM (r := Rect.unit (s := S2x1024x512) ![e, 0, 0] S1x1024x512.size inb) (hl := hl) (kk := kk) (Q := Q) Finset.univ f (slab2 f e)
    (Finset.subset_univ _) (read_slab2 inb f)
  exact h

theorem load_band {Q : α → sProp 𝕄} {o : ℕ} {inb : ∀ a, (![o, 0, 0] : Fin 3 → ℕ) a + S8x40x512.size a ≤ S32x40x512.size a} {hl}
    {kk : Vec F S8x40x512 .bf16 → Prog (TpuEff nD τ sig (Elt F) Λ₀ .tc) α} (f : Vec F S32x40x512 .bf16) :
    ryR c o (o + 8) f ⊢ iprop((ryR c o (o + 8) f -∗ seen c (kk (band f o)) Q)
      -∗ seen c (.op (.load ryM (Rect.unit (s := S32x40x512) ![o, 0, 0] S8x40x512.size inb).toLoadRect hl) kk) Q) := by
  have h := load_part c ryM (r := Rect.unit (s := S32x40x512) ![o, 0, 0] S8x40x512.size inb) (hl := hl) (kk := kk) (Q := Q) (slots o (o + 8)) f (band f o)
    ((View.set_slice_whole cc0_scratch3 _).trans_subset (rect_slots (n := 8) (w := 40) rfl rfl inb)) (read_band_ry inb f)
  exact h

/-! Loads the program does not use, and loads of the device's own slots -/

theorem load_ys {Q : α → sProp 𝕄} {o p : ℕ} {inb : ∀ a, (![o, p, 0] : Fin 3 → ℕ) a + S8x20x512.size a ≤ S32x40x512.size a} {hl}
    {kk : Vec F S8x20x512 .bf16 → Prog (TpuEff nD τ sig (Elt F) Λ₀ .tc) α} (f : Vec F S32x40x512 .bf16) :
    ysR c o (o + 8) f ⊢ iprop((ysR c o (o + 8) f -∗ seen c (kk (ysM.view.readAt (Elt F) (Rect.unit (s := S32x40x512) ![o, p, 0] S8x20x512.size inb).toLoadRect f)) Q)
      -∗ seen c (.op (.load ysM (Rect.unit (s := S32x40x512) ![o, p, 0] S8x20x512.size inb).toLoadRect hl) kk) Q) := by
  have h := load_part c ysM (r := Rect.unit (s := S32x40x512) ![o, p, 0] S8x20x512.size inb) (hl := hl) (kk := kk) (Q := Q) (slots o (o + 8)) f (ysM.view.readAt (Elt F) (Rect.unit (s := S32x40x512) ![o, p, 0] S8x20x512.size inb).toLoadRect f)
    ((View.set_slice_whole cc0_scratch2 _).trans_subset (rect_slots (n := 8) (w := 20) rfl rfl inb)) rfl
  exact h

theorem load_sg_own {Q : α → sProp 𝕄}  {inb : ∀ a, (![31, 0, 0] : Fin 3 → ℕ) a + S1x40x512.size a ≤ S32x40x512.size a} {hl}
    {kk : Vec F S1x40x512 .bf16 → Prog (TpuEff nD τ sig (Elt F) Λ₀ .tc) α} (f : Vec F S32x40x512 .bf16) :
    sgR c 0 32 f ⊢ iprop((sgR c 0 32 f -∗ seen c (kk (sgM.view.readAt (Elt F) (Rect.unit (s := S32x40x512) ![31, 0, 0] S1x40x512.size inb).toLoadRect f)) Q)
      -∗ seen c (.op (.load sgM (Rect.unit (s := S32x40x512) ![31, 0, 0] S1x40x512.size inb).toLoadRect hl) kk) Q) := by
  have h := load_part c sgM (r := Rect.unit (s := S32x40x512) ![31, 0, 0] S1x40x512.size inb) (hl := hl) (kk := kk) (Q := Q) (slots 0 32) f (sgM.view.readAt (Elt F) (Rect.unit (s := S32x40x512) ![31, 0, 0] S1x40x512.size inb).toLoadRect f)
    ((View.set_slice_whole cc0_scratch0 _).trans_subset (by rw [slots_all]; exact Finset.subset_univ _)) rfl
  exact h

theorem load_rx_own {Q : α → sProp 𝕄}  {inb : ∀ a, (![31, 0, 0] : Fin 3 → ℕ) a + S1x40x512.size a ≤ S32x40x512.size a} {hl}
    {kk : Vec F S1x40x512 .bf16 → Prog (TpuEff nD τ sig (Elt F) Λ₀ .tc) α} (f : Vec F S32x40x512 .bf16) :
    rxP c 31 f ⊢ iprop((rxP c 31 f -∗ seen c (kk (rxM.view.readAt (Elt F) (Rect.unit (s := S32x40x512) ![31, 0, 0] S1x40x512.size inb).toLoadRect f)) Q)
      -∗ seen c (.op (.load rxM (Rect.unit (s := S32x40x512) ![31, 0, 0] S1x40x512.size inb).toLoadRect hl) kk) Q) := by
  have h := load_part c rxM (r := Rect.unit (s := S32x40x512) ![31, 0, 0] S1x40x512.size inb) (hl := hl) (kk := kk) (Q := Q) (slot 31) f (rxM.view.readAt (Elt F) (Rect.unit (s := S32x40x512) ![31, 0, 0] S1x40x512.size inb).toLoadRect f)
    ((View.set_slice_whole cc0_scratch1 _).trans_subset (rect_slot rfl inb).subset) rfl
  exact h

theorem load_ys_own {Q : α → sProp 𝕄}  {inb : ∀ a, (![31, 0, 0] : Fin 3 → ℕ) a + S1x40x512.size a ≤ S32x40x512.size a} {hl}
    {kk : Vec F S1x40x512 .bf16 → Prog (TpuEff nD τ sig (Elt F) Λ₀ .tc) α} (f : Vec F S32x40x512 .bf16) :
    ysR c 24 32 f ⊢ iprop((ysR c 24 32 f -∗ seen c (kk (ysM.view.readAt (Elt F) (Rect.unit (s := S32x40x512) ![31, 0, 0] S1x40x512.size inb).toLoadRect f)) Q)
      -∗ seen c (.op (.load ysM (Rect.unit (s := S32x40x512) ![31, 0, 0] S1x40x512.size inb).toLoadRect hl) kk) Q) := by
  have h := load_part c ysM (r := Rect.unit (s := S32x40x512) ![31, 0, 0] S1x40x512.size inb) (hl := hl) (kk := kk) (Q := Q) (slots 24 32) f (ysM.view.readAt (Elt F) (Rect.unit (s := S32x40x512) ![31, 0, 0] S1x40x512.size inb).toLoadRect f)
    ((View.set_slice_whole cc0_scratch2 _).trans_subset ((rect_slot rfl inb).subset.trans fun i hi => by rw [mem_slots]; rw [mem_slot] at hi; omega)) rfl
  exact h

theorem load_ry_own {Q : α → sProp 𝕄}  {inb : ∀ a, (![31, 0, 0] : Fin 3 → ℕ) a + S1x40x512.size a ≤ S32x40x512.size a} {hl}
    {kk : Vec F S1x40x512 .bf16 → Prog (TpuEff nD τ sig (Elt F) Λ₀ .tc) α} (f : Vec F S32x40x512 .bf16) :
    ryP c 31 f ⊢ iprop((ryP c 31 f -∗ seen c (kk (ryM.view.readAt (Elt F) (Rect.unit (s := S32x40x512) ![31, 0, 0] S1x40x512.size inb).toLoadRect f)) Q)
      -∗ seen c (.op (.load ryM (Rect.unit (s := S32x40x512) ![31, 0, 0] S1x40x512.size inb).toLoadRect hl) kk) Q) := by
  have h := load_part c ryM (r := Rect.unit (s := S32x40x512) ![31, 0, 0] S1x40x512.size inb) (hl := hl) (kk := kk) (Q := Q) (slot 31) f (ryM.view.readAt (Elt F) (Rect.unit (s := S32x40x512) ![31, 0, 0] S1x40x512.size inb).toLoadRect f)
    ((View.set_slice_whole cc0_scratch3 _).trans_subset (rect_slot rfl inb).subset) rfl
  exact h

/-! Stores -/

/-- The store of a chunk's lower half-rows. -/
theorem store_lower {Q : α → sProp 𝕄} (q : ℕ) {inb : ∀ a, (![8 * q, 0, 0] : Fin 3 → ℕ) a + S8x20x512.size a ≤ S32x40x512.size a} {hx hm}
    {kk : PUnit → Prog (TpuEff nD τ sig (Elt F) Λ₀ .tc) α} (g : Vec F S32x40x512 .bf16) {w : Vec F S8x20x512 .bf16}
    (hw : w = k0_pay20 (half (RX m c) (8 * q) 0) (slab1 (k0_pay4 (Wa m c)) 0) (slab2 (k0_pay5 (Wb m c)) 0)) :
    ysR c (8 * q) (8 * q + 8) g ⊢ iprop((halfway m c q -∗ seen c (kk ⟨⟩) Q)
      -∗ seen c (.op (.store ysM (Rect.unit (s := S32x40x512) ![8 * q, 0, 0] S8x20x512.size inb) w Finset.univ hx hm) kk) Q) := by
  have h := store_part c ysM (r := Rect.unit (s := S32x40x512) ![8 * q, 0, 0] S8x20x512.size inb) (w := w) (hx := hx) (hm := hm) (kk := kk) (Q := Q) (slots (8 * q) (8 * q + 8)) g (halfway m c q)
    ((View.set_slice_whole cc0_scratch2 _).trans_subset (rect_slots (n := 8) (w := 20) rfl rfl inb)) (by subst hw; unfold halfway ysR; iintro H; iexists g; iexists inb; iexact H)
  exact h

/-- The store of a chunk's upper half-rows completes the chunk. -/
theorem store_upper {Q : α → sProp 𝕄} (q : ℕ) {inb : ∀ a, (![8 * q, 20, 0] : Fin 3 → ℕ) a + S8x20x512.size a ≤ S32x40x512.size a} {hx hm}
    {kk : PUnit → Prog (TpuEff nD τ sig (Elt F) Λ₀ .tc) α} {w : Vec F S8x20x512 .bf16} (g : Vec F S32x40x512 .bf16)
    (inb0 : ∀ a, (![8 * q, 0, 0] : Fin 3 → ℕ) a + S8x20x512.size a ≤ S32x40x512.size a)
    (hw : w = k0_pay20 (half (RX m c) (8 * q) 20) (slab1 (k0_pay4 (Wa m c)) 1) (slab2 (k0_pay5 (Wb m c)) 1)) :
    ysR c (8 * q) (8 * q + 8) ((ysHalf (8 * q) 0 inb0).write (Elt F) g
        (k0_pay20 (half (RX m c) (8 * q) 0) (slab1 (k0_pay4 (Wa m c)) 0) (slab2 (k0_pay5 (Wb m c)) 0)) Finset.univ)
      ⊢ iprop((ysR c (8 * q) (8 * q + 8) (YS m c) -∗ seen c (kk ⟨⟩) Q)
        -∗ seen c (.op (.store ysM (Rect.unit (s := S32x40x512) ![8 * q, 20, 0] S8x20x512.size inb) w Finset.univ hx hm) kk) Q) := by
  have h := store_part c ysM (r := Rect.unit (s := S32x40x512) ![8 * q, 20, 0] S8x20x512.size inb) (w := w) (hx := hx) (hm := hm) (kk := kk) (Q := Q) (slots (8 * q) (8 * q + 8)) _ (ysR c (8 * q) (8 * q + 8) (YS m c)) ((View.set_slice_whole cc0_scratch2 _).trans_subset (rect_slots (n := 8) (w := 20) rfl rfl inb))
    (Entails.of_eq (pointsTo_congr fun i hi => chunk_done m q inb0 inb g _ w i c rfl hw hi))
  exact h

/-- The device's own outgoing slot goes into its receive buffer. -/
theorem store_rx_own {Q : α → sProp 𝕄}  {inb : ∀ a, (![31, 0, 0] : Fin 3 → ℕ) a + S1x40x512.size a ≤ S32x40x512.size a} {hx hm}
    {kk : PUnit → Prog (TpuEff nD τ sig (Elt F) Λ₀ .tc) α} (g : Vec F S32x40x512 .bf16) {w : Vec F S1x40x512 .bf16} (inb')
    (hw : w = k0_pay17 (sgM.view.readAt (Elt F) (Rect.unit (s := S32x40x512) ![31, 0, 0] S1x40x512.size inb').toLoadRect (SG m c))) :
    rxP c 31 g ⊢ iprop((rxP c 31 (RX m c) -∗ seen c (kk ⟨⟩) Q)
      -∗ seen c (.op (.store rxM (Rect.unit (s := S32x40x512) ![31, 0, 0] S1x40x512.size inb) w Finset.univ hx hm) kk) Q) := by
  have h := store_part c rxM (r := Rect.unit (s := S32x40x512) ![31, 0, 0] S1x40x512.size inb) (w := w) (hx := hx) (hm := hm) (kk := kk) (Q := Q) (slot 31) g (rxP c 31 (RX m c))
    ((View.set_slice_whole cc0_scratch1 _).trans_subset (rect_slot rfl inb).subset) (Entails.of_eq (pointsTo_congr fun i hi => by subst hw; exact own_out m c g inb inb' i hi))
  exact h

/-- The device's own computed slot goes into its return buffer. -/
theorem store_ry_own {Q : α → sProp 𝕄}  {inb : ∀ a, (![31, 0, 0] : Fin 3 → ℕ) a + S1x40x512.size a ≤ S32x40x512.size a} {hx hm}
    {kk : PUnit → Prog (TpuEff nD τ sig (Elt F) Λ₀ .tc) α} (g : Vec F S32x40x512 .bf16) {w : Vec F S1x40x512 .bf16} (inb')
    (hw : w = k0_pay29 (ysM.view.readAt (Elt F) (Rect.unit (s := S32x40x512) ![31, 0, 0] S1x40x512.size inb').toLoadRect (YS m c))) :
    ryP c 31 g ⊢ iprop((ryP c 31 (RY m c) -∗ seen c (kk ⟨⟩) Q)
      -∗ seen c (.op (.store ryM (Rect.unit (s := S32x40x512) ![31, 0, 0] S1x40x512.size inb) w Finset.univ hx hm) kk) Q) := by
  have h := store_part c ryM (r := Rect.unit (s := S32x40x512) ![31, 0, 0] S1x40x512.size inb) (w := w) (hx := hx) (hm := hm) (kk := kk) (Q := Q) (slot 31) g (ryP c 31 (RY m c))
    ((View.set_slice_whole cc0_scratch3 _).trans_subset (rect_slot rfl inb).subset) (Entails.of_eq (pointsTo_congr fun i hi => by subst hw; exact own_back m c g inb inb' i hi))
  exact h

/-! Whole buffers -/

theorem load_x {Q : α → sProp 𝕄} {inb : ∀ a, (![0, 0] : Fin 2 → ℕ) a + S512x512.size a ≤ S512x512.size a} {hl}
    {kk : Vec F S512x512 .bf16 → Prog (TpuEff nD τ sig (Elt F) Λ₀ .tc) α} (f : Vec F S512x512 .bf16) :
    xP c f ⊢ iprop((xP c f -∗ seen c (kk f) Q)
      -∗ seen c (.op (.load (Memref.whole cc0_stg0_0 : Memref sig .tc .vmem S512x512 .bf16) (Rect.unit (s := S512x512) ![0, 0] S512x512.size inb).toLoadRect hl) kk) Q) := by
  have h := load_part c (Memref.whole cc0_stg0_0 : Memref sig .tc .vmem S512x512 .bf16) (r := Rect.unit (s := S512x512) ![0, 0] S512x512.size inb) (hl := hl) (kk := kk) (Q := Q) Finset.univ f f
    (Finset.subset_univ _) (Memref.readAt_unit_zero (Elt F) cc0_stg0_0 hz2 inb f)
  exact h

theorem load_asg {Q : α → sProp 𝕄} {inb : ∀ a, (![0] : Fin 1 → ℕ) a + S512.size a ≤ S512.size a} {hl}
    {kk : Vec F S512 .i32 → Prog (TpuEff nD τ sig (Elt F) Λ₀ .tc) α} (f : Vec F S512 .i32) :
    asP c f ⊢ iprop((asP c f -∗ seen c (kk f) Q)
      -∗ seen c (.op (.load (Memref.whole cc0_stg1_0 : Memref sig .tc .vmem S512 .i32) (Rect.unit (s := S512) ![0] S512.size inb).toLoadRect hl) kk) Q) := by
  have h := load_part c (Memref.whole cc0_stg1_0 : Memref sig .tc .vmem S512 .i32) (r := Rect.unit (s := S512) ![0] S512.size inb) (hl := hl) (kk := kk) (Q := Q) Finset.univ f f
    (Finset.subset_univ _) (Memref.readAt_unit_zero (Elt F) cc0_stg1_0 hz1 inb f)
  exact h

theorem load_wa {Q : α → sProp 𝕄} {inb : ∀ a, (![0, 0, 0] : Fin 3 → ℕ) a + S2x512x1024.size a ≤ S2x512x1024.size a} {hl}
    {kk : Vec F S2x512x1024 .bf16 → Prog (TpuEff nD τ sig (Elt F) Λ₀ .tc) α} (f : Vec F S2x512x1024 .bf16) :
    waP c f ⊢ iprop((waP c f -∗ seen c (kk f) Q)
      -∗ seen c (.op (.load (Memref.whole cc0_stg2_0 : Memref sig .tc .vmem S2x512x1024 .bf16) (Rect.unit (s := S2x512x1024) ![0, 0, 0] S2x512x1024.size inb).toLoadRect hl) kk) Q) := by
  have h := load_part c (Memref.whole cc0_stg2_0 : Memref sig .tc .vmem S2x512x1024 .bf16) (r := Rect.unit (s := S2x512x1024) ![0, 0, 0] S2x512x1024.size inb) (hl := hl) (kk := kk) (Q := Q) Finset.univ f f
    (Finset.subset_univ _) (Memref.readAt_unit_zero (Elt F) cc0_stg2_0 hz3 inb f)
  exact h

theorem load_wb {Q : α → sProp 𝕄} {inb : ∀ a, (![0, 0, 0] : Fin 3 → ℕ) a + S2x1024x512.size a ≤ S2x1024x512.size a} {hl}
    {kk : Vec F S2x1024x512 .bf16 → Prog (TpuEff nD τ sig (Elt F) Λ₀ .tc) α} (f : Vec F S2x1024x512 .bf16) :
    wbP c f ⊢ iprop((wbP c f -∗ seen c (kk f) Q)
      -∗ seen c (.op (.load (Memref.whole cc0_stg3_0 : Memref sig .tc .vmem S2x1024x512 .bf16) (Rect.unit (s := S2x1024x512) ![0, 0, 0] S2x1024x512.size inb).toLoadRect hl) kk) Q) := by
  have h := load_part c (Memref.whole cc0_stg3_0 : Memref sig .tc .vmem S2x1024x512 .bf16) (r := Rect.unit (s := S2x1024x512) ![0, 0, 0] S2x1024x512.size inb) (hl := hl) (kk := kk) (Q := Q) Finset.univ f f
    (Finset.subset_univ _) (Memref.readAt_unit_zero (Elt F) cc0_stg3_0 hz3 inb f)
  exact h

theorem load_out {Q : α → sProp 𝕄} {inb : ∀ a, (![0, 0] : Fin 2 → ℕ) a + S512x512.size a ≤ S512x512.size a} {hl}
    {kk : Vec F S512x512 .f32 → Prog (TpuEff nD τ sig (Elt F) Λ₀ .tc) α} (f : Vec F S512x512 .f32) :
    outP c f ⊢ iprop((outP c f -∗ seen c (kk f) Q)
      -∗ seen c (.op (.load (Memref.whole cc0_stg4_0 : Memref sig .tc .vmem S512x512 .f32) (Rect.unit (s := S512x512) ![0, 0] S512x512.size inb).toLoadRect hl) kk) Q) := by
  have h := load_part c (Memref.whole cc0_stg4_0 : Memref sig .tc .vmem S512x512 .f32) (r := Rect.unit (s := S512x512) ![0, 0] S512x512.size inb) (hl := hl) (kk := kk) (Q := Q) Finset.univ f f
    (Finset.subset_univ _) (Memref.readAt_unit_zero (Elt F) cc0_stg4_0 hz2 inb f)
  exact h

theorem store_out {Q : α → sProp 𝕄} {inb : ∀ a, (![0, 0] : Fin 2 → ℕ) a + S512x512.size a ≤ S512x512.size a} {hx hm}
    {kk : PUnit → Prog (TpuEff nD τ sig (Elt F) Λ₀ .tc) α} {w : Vec F S512x512 .f32} (f : Vec F S512x512 .f32) :
    outP c f ⊢ iprop((outP c w -∗ seen c (kk ⟨⟩) Q)
      -∗ seen c (.op (.store (Memref.whole cc0_stg4_0 : Memref sig .tc .vmem S512x512 .f32) (Rect.unit (s := S512x512) ![0, 0] S512x512.size inb) w Finset.univ hx hm) kk) Q) := by
  have h := store_part c (Memref.whole cc0_stg4_0 : Memref sig .tc .vmem S512x512 .f32) (r := Rect.unit (s := S512x512) ![0, 0] S512x512.size inb) (w := w) (hx := hx) (hm := hm) (kk := kk) (Q := Q) Finset.univ f (outP c w)
    (Finset.subset_univ _) (Entails.of_eq (congrArg (fun v : Vec F S512x512 .f32 => (outP c v : sProp 𝕄)) (Memref.write_access_unit_zero_univ (Elt F) cc0_stg4_0 hz2 inb f w)))
  exact h

theorem load_sg {Q : α → sProp 𝕄} {inb : ∀ a, (![0, 0, 0] : Fin 3 → ℕ) a + S32x40x512.size a ≤ S32x40x512.size a} {hl}
    {kk : Vec F S32x40x512 .bf16 → Prog (TpuEff nD τ sig (Elt F) Λ₀ .tc) α} (f : Vec F S32x40x512 .bf16) :
    sgW c f ⊢ iprop((sgW c f -∗ seen c (kk f) Q)
      -∗ seen c (.op (.load (Memref.whole cc0_scratch0 : Memref sig .tc .vmem S32x40x512 .bf16) (Rect.unit (s := S32x40x512) ![0, 0, 0] S32x40x512.size inb).toLoadRect hl) kk) Q) := by
  have h := load_part c (Memref.whole cc0_scratch0 : Memref sig .tc .vmem S32x40x512 .bf16) (r := Rect.unit (s := S32x40x512) ![0, 0, 0] S32x40x512.size inb) (hl := hl) (kk := kk) (Q := Q) Finset.univ f f
    (Finset.subset_univ _) (Memref.readAt_unit_zero (Elt F) cc0_scratch0 hz3 inb f)
  exact h

theorem store_sg {Q : α → sProp 𝕄} {inb : ∀ a, (![0, 0, 0] : Fin 3 → ℕ) a + S32x40x512.size a ≤ S32x40x512.size a} {hx hm}
    {kk : PUnit → Prog (TpuEff nD τ sig (Elt F) Λ₀ .tc) α} {w : Vec F S32x40x512 .bf16} (f : Vec F S32x40x512 .bf16) :
    sgW c f ⊢ iprop((sgW c w -∗ seen c (kk ⟨⟩) Q)
      -∗ seen c (.op (.store (Memref.whole cc0_scratch0 : Memref sig .tc .vmem S32x40x512 .bf16) (Rect.unit (s := S32x40x512) ![0, 0, 0] S32x40x512.size inb) w Finset.univ hx hm) kk) Q) := by
  have h := store_part c (Memref.whole cc0_scratch0 : Memref sig .tc .vmem S32x40x512 .bf16) (r := Rect.unit (s := S32x40x512) ![0, 0, 0] S32x40x512.size inb) (w := w) (hx := hx) (hm := hm) (kk := kk) (Q := Q) Finset.univ f (sgW c w)
    (Finset.subset_univ _) (Entails.of_eq (congrArg (fun v : Vec F S32x40x512 .bf16 => (sgW c v : sProp 𝕄)) (Memref.write_access_unit_zero_univ (Elt F) cc0_scratch0 hz3 inb f w)))
  exact h

theorem load_w1 {Q : α → sProp 𝕄} {inb : ∀ a, (![0, 0, 0] : Fin 3 → ℕ) a + S2x512x1024.size a ≤ S2x512x1024.size a} {hl}
    {kk : Vec F S2x512x1024 .bf16 → Prog (TpuEff nD τ sig (Elt F) Λ₀ .tc) α} (f : Vec F S2x512x1024 .bf16) :
    w1P c f ⊢ iprop((w1P c f -∗ seen c (kk f) Q)
      -∗ seen c (.op (.load (Memref.whole cc0_scratch4 : Memref sig .tc .vmem S2x512x1024 .bf16) (Rect.unit (s := S2x512x1024) ![0, 0, 0] S2x512x1024.size inb).toLoadRect hl) kk) Q) := by
  have h := load_part c (Memref.whole cc0_scratch4 : Memref sig .tc .vmem S2x512x1024 .bf16) (r := Rect.unit (s := S2x512x1024) ![0, 0, 0] S2x512x1024.size inb) (hl := hl) (kk := kk) (Q := Q) Finset.univ f f
    (Finset.subset_univ _) (Memref.readAt_unit_zero (Elt F) cc0_scratch4 hz3 inb f)
  exact h

theorem store_w1 {Q : α → sProp 𝕄} {inb : ∀ a, (![0, 0, 0] : Fin 3 → ℕ) a + S2x512x1024.size a ≤ S2x512x1024.size a} {hx hm}
    {kk : PUnit → Prog (TpuEff nD τ sig (Elt F) Λ₀ .tc) α} {w : Vec F S2x512x1024 .bf16} (f : Vec F S2x512x1024 .bf16) :
    w1P c f ⊢ iprop((w1P c w -∗ seen c (kk ⟨⟩) Q)
      -∗ seen c (.op (.store (Memref.whole cc0_scratch4 : Memref sig .tc .vmem S2x512x1024 .bf16) (Rect.unit (s := S2x512x1024) ![0, 0, 0] S2x512x1024.size inb) w Finset.univ hx hm) kk) Q) := by
  have h := store_part c (Memref.whole cc0_scratch4 : Memref sig .tc .vmem S2x512x1024 .bf16) (r := Rect.unit (s := S2x512x1024) ![0, 0, 0] S2x512x1024.size inb) (w := w) (hx := hx) (hm := hm) (kk := kk) (Q := Q) Finset.univ f (w1P c w)
    (Finset.subset_univ _) (Entails.of_eq (congrArg (fun v : Vec F S2x512x1024 .bf16 => (w1P c v : sProp 𝕄)) (Memref.write_access_unit_zero_univ (Elt F) cc0_scratch4 hz3 inb f w)))
  exact h

theorem load_w2 {Q : α → sProp 𝕄} {inb : ∀ a, (![0, 0, 0] : Fin 3 → ℕ) a + S2x1024x512.size a ≤ S2x1024x512.size a} {hl}
    {kk : Vec F S2x1024x512 .bf16 → Prog (TpuEff nD τ sig (Elt F) Λ₀ .tc) α} (f : Vec F S2x1024x512 .bf16) :
    w2P c f ⊢ iprop((w2P c f -∗ seen c (kk f) Q)
      -∗ seen c (.op (.load (Memref.whole cc0_scratch5 : Memref sig .tc .vmem S2x1024x512 .bf16) (Rect.unit (s := S2x1024x512) ![0, 0, 0] S2x1024x512.size inb).toLoadRect hl) kk) Q) := by
  have h := load_part c (Memref.whole cc0_scratch5 : Memref sig .tc .vmem S2x1024x512 .bf16) (r := Rect.unit (s := S2x1024x512) ![0, 0, 0] S2x1024x512.size inb) (hl := hl) (kk := kk) (Q := Q) Finset.univ f f
    (Finset.subset_univ _) (Memref.readAt_unit_zero (Elt F) cc0_scratch5 hz3 inb f)
  exact h

theorem store_w2 {Q : α → sProp 𝕄} {inb : ∀ a, (![0, 0, 0] : Fin 3 → ℕ) a + S2x1024x512.size a ≤ S2x1024x512.size a} {hx hm}
    {kk : PUnit → Prog (TpuEff nD τ sig (Elt F) Λ₀ .tc) α} {w : Vec F S2x1024x512 .bf16} (f : Vec F S2x1024x512 .bf16) :
    w2P c f ⊢ iprop((w2P c w -∗ seen c (kk ⟨⟩) Q)
      -∗ seen c (.op (.store (Memref.whole cc0_scratch5 : Memref sig .tc .vmem S2x1024x512 .bf16) (Rect.unit (s := S2x1024x512) ![0, 0, 0] S2x1024x512.size inb) w Finset.univ hx hm) kk) Q) := by
  have h := store_part c (Memref.whole cc0_scratch5 : Memref sig .tc .vmem S2x1024x512 .bf16) (r := Rect.unit (s := S2x1024x512) ![0, 0, 0] S2x1024x512.size inb) (w := w) (hx := hx) (hm := hm) (kk := kk) (Q := Q) Finset.univ f (w2P c w)
    (Finset.subset_univ _) (Entails.of_eq (congrArg (fun v : Vec F S2x1024x512 .bf16 => (w2P c v : sProp 𝕄)) (Memref.write_access_unit_zero_univ (Elt F) cc0_scratch5 hz3 inb f w)))
  exact h

theorem load_xb {Q : α → sProp 𝕄} {inb : ∀ a, (![0, 0] : Fin 2 → ℕ) a + S512x512.size a ≤ S512x512.size a} {hl}
    {kk : Vec F S512x512 .bf16 → Prog (TpuEff nD τ sig (Elt F) Λ₀ .tc) α} (f : Vec F S512x512 .bf16) :
    xbP c f ⊢ iprop((xbP c f -∗ seen c (kk f) Q)
      -∗ seen c (.op (.load (Memref.whole cc0_scratch6 : Memref sig .tc .vmem S512x512 .bf16) (Rect.unit (s := S512x512) ![0, 0] S512x512.size inb).toLoadRect hl) kk) Q) := by
  have h := load_part c (Memref.whole cc0_scratch6 : Memref sig .tc .vmem S512x512 .bf16) (r := Rect.unit (s := S512x512) ![0, 0] S512x512.size inb) (hl := hl) (kk := kk) (Q := Q) Finset.univ f f
    (Finset.subset_univ _) (Memref.readAt_unit_zero (Elt F) cc0_scratch6 hz2 inb f)
  exact h

theorem store_xb {Q : α → sProp 𝕄} {inb : ∀ a, (![0, 0] : Fin 2 → ℕ) a + S512x512.size a ≤ S512x512.size a} {hx hm}
    {kk : PUnit → Prog (TpuEff nD τ sig (Elt F) Λ₀ .tc) α} {w : Vec F S512x512 .bf16} (f : Vec F S512x512 .bf16) :
    xbP c f ⊢ iprop((xbP c w -∗ seen c (kk ⟨⟩) Q)
      -∗ seen c (.op (.store (Memref.whole cc0_scratch6 : Memref sig .tc .vmem S512x512 .bf16) (Rect.unit (s := S512x512) ![0, 0] S512x512.size inb) w Finset.univ hx hm) kk) Q) := by
  have h := store_part c (Memref.whole cc0_scratch6 : Memref sig .tc .vmem S512x512 .bf16) (r := Rect.unit (s := S512x512) ![0, 0] S512x512.size inb) (w := w) (hx := hx) (hm := hm) (kk := kk) (Q := Q) Finset.univ f (xbP c w)
    (Finset.subset_univ _) (Entails.of_eq (congrArg (fun v : Vec F S512x512 .bf16 => (xbP c v : sProp 𝕄)) (Memref.write_access_unit_zero_univ (Elt F) cc0_scratch6 hz2 inb f w)))
  exact h

end Ops

end Cert.Exchange

end
-- ==== Proof.PartA.lean ====
/-
The first parts of the body: the arguments are copied, the routing is computed, the barrier is passed.
-/
module

public import proofs.«01_k».proof.Proof.Ops

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The copied arguments. -/
def copies : sProp 𝕄 := iprop(xbP c (k0_pay3 (X m c)) ∗ w1P c (k0_pay4 (Wa m c)) ∗ w2P c (k0_pay5 (Wb m c)))
def args : sProp 𝕄 := iprop(xP c (X m c) ∗ asP c (As m c) ∗ waP c (Wa m c) ∗ wbP c (Wb m c))

theorem seen_ret {α : Type} {Q : α → sProp 𝕄} (v : α) : Q v ⊢ seen c (.ret v) Q := by
  show Q v ⊢ wp frame (wpE (defs₀ (F := F)) 𝒱₀ (c : Thread nD τ) none) Set.univ (.ret v) Q
  rw [wp_ret]; iintro H; imodintro; iexact H

theorem part1 {Q} (x₀ : Vec F S512x512 .bf16) (w₁ : Vec F S2x512x1024 .bf16) (w₂ : Vec F S2x1024x512 .bf16) :
    iprop(args m c ∗ xbP c x₀ ∗ w1P c w₁ ∗ w2P c w₂)
      ⊢ iprop((args m c ∗ copies m c -∗ Q ⟨c, myId c, k0_pay6 (As m c), k0_pay7 (F := F), k0_pay8 (As m c), k0_pay9 (As m c)⟩)
        -∗ seen c (withArgs (k0_part1 (F := F))) Q) := by
  unfold withArgs args copies myId
  rw [k0_part1_eq_skeleton]; unfold k0_part1_skel
  simp only [Prog.lift, Prog.bind_op, Prog.bind_ret, Prog.pure_eq_ret, wp_deviceId]
  iintro ⟨⟨Hx, Ha, Hwa, Hwb⟩, Hxb, Hw1, Hw2⟩ Hk
  iapply (load_x c _) $$ Hx; iintro Hx
  iapply (load_xb c _) $$ Hxb; iintro Hxb
  iapply (store_xb c _) $$ Hxb; iintro Hxb
  iapply (load_wa c _) $$ Hwa; iintro Hwa
  iapply (load_w1 c _) $$ Hw1; iintro Hw1
  iapply (store_w1 c _) $$ Hw1; iintro Hw1
  iapply (load_wb c _) $$ Hwb; iintro Hwb
  iapply (load_w2 c _) $$ Hw2; iintro Hw2
  iapply (store_w2 c _) $$ Hw2; iintro Hw2
  iapply (load_asg c _) $$ Ha; iintro Ha
  iapply (seen_ret c _)
  iapply Hk
  isplitl [Hx Ha Hwa Hwb]
  · isplitl [Hx]; · iexact Hx
    isplitl [Ha]; · iexact Ha
    isplitl [Hwa]; · iexact Hwa
    iexact Hwb
  isplitl [Hxb]; · iexact Hxb
  isplitl [Hw1]; · iexact Hw1
  iexact Hw2

theorem part2 {Q} (v2 : BitVec 32) (v34 : FVec F S512x64 .bf16) (v35 : FVec F S512x64 .f32) :
    Q ⟨k0_pay10 v34 v35, k0_pay11, k0_pay12 v2, k0_pay13⟩ ⊢ seen c (withArgs (k0_part2 (F := F)) v2 v34 v35) Q := by
  unfold withArgs
  rw [k0_part2_eq_skeleton]; unfold k0_part2_skel
  exact seen_ret c _

theorem seen_bind {α β : Type} {Q : β → sProp 𝕄} (p : Prog (TpuEff nD τ sig (Elt F) Λ₀ .tc) α) (kk : α → Prog (TpuEff nD τ sig (Elt F) Λ₀ .tc) β) :
    seen c p (fun v => seen c (kk v) Q) ⊢ seen c (p >>= kk) Q := by
  show _ ⊢ wp frame (wpE (defs₀ (F := F)) 𝒱₀ (c : Thread nD τ) none) Set.univ (p >>= kk) Q
  rw [wp_bind]

/-- The barrier wait at the head of a program. -/
theorem barrier_step {α : Type} {Q : α → sProp 𝕄} (s : Sem sig) (hs : s = barS) {kk : Unit → Prog (TpuEff nD τ sig (Elt F) Λ₀ .tc) α} :
    iprop(know m ∗ acct c 0 0 31 ∗ cred (tallyAt (barCell c) () 31) ∗ atPos ER (barCell c) 0 ∅ 0)
      ⊢ iprop((acct c 0 0 31 ∗ semVal (barCell c) 0 ∗ bigSep (Finset.range 31) (fun k => barPay c k) -∗ seen c (kk ⟨⟩) Q)
        -∗ seen c (.op (.semWait s (31#32 : BitVec 32).toInt) kk) Q) := by
  iintro H Hk
  have e : (.op (.semWait s (31#32 : BitVec 32).toInt) kk : Prog (TpuEff nD τ sig (Elt F) Λ₀ .tc) α)
    = (.op (.semWait s (31#32 : BitVec 32).toInt) .ret : Prog (TpuEff nD τ sig (Elt F) Λ₀ .tc) Unit) >>= kk := rfl
  rw [e]
  iapply (seen_bind c _ _)
  iapply (wp_wand_r frame _ Set.univ)
  isplitl [H]; · iapply (step_barrier m c s hs); iexact H
  iintro %_ H
  iapply Hk; iexact H

theorem sgR_all (f : Vec F S32x40x512 .bf16) : (sgR c 0 32 f : sProp 𝕄) = sgW c f := by unfold sgR sgW; rw [slots_all]

theorem sg_in : sgW c (k0_pay16 (k0_pay6 (As m c)) (rank m c) k0_pay11 (k0_pay12 (myId c)) k0_pay13 (k0_pay3 (X m c))) ⊢ (sgR c 0 32 (SG m c) : sProp 𝕄) :=
  Entails.of_eq (sgR_all c (SG m c)).symm

theorem part3 {Q} (v2 : BitVec 32) (hv : v2 = myId c) (x₀ g : Vec F S32x40x512 .bf16) :
    iprop(know m ∗ acct c 0 0 0 ∗ bigSep (Finset.Ico 0 31) (sigA c) ∗ cred (tallyAt (barCell c) () 31) ∗ atPos ER (barCell c) 0 ∅ 0
        ∗ xbP c (k0_pay3 (X m c)) ∗ sgW c x₀ ∗ rxP c 31 g)
      ⊢ iprop((acct c 0 0 31 ∗ semVal (barCell c) 0 ∗ bigSep (Finset.range 31) (fun k => barPay c k)
          ∗ xbP c (k0_pay3 (X m c)) ∗ sgR c 0 32 (SG m c) ∗ rxP c 31 (RX m c) -∗ Q ⟨PA m c, 0#32⟩)
        -∗ seen c (withArgs (k0_part3 (F := F)) c v2 (k0_pay6 (As m c)) k0_pay7 (rank m c) k0_pay11 (k0_pay12 v2) k0_pay13) Q) := by
  subst hv
  unfold withArgs PA
  rw [k0_part3_eq_skeleton]; unfold k0_part3_skel
  simp only [semWaitWord, Prog.lift, Prog.bind_op, Prog.bind_ret, Prog.pure_eq_ret]
  iintro ⟨#HK, HO, Hsig, Hcr, Hat, Hxb, Hsg, Hrx⟩ Hk
  iapply (loop_sig m c (t := 31) (b := 0) trips1 (by decide) fun i => form1 c _ _ _ _ _ _ _ i) $$ [HO Hsig]
  · isplitr; · iexact HK
    isplitl [HO]; · iexact HO
    iexact Hsig
  iintro ⟨HO, -⟩
  iapply (barrier_step m c _ rfl) $$ [HO Hcr Hat]
  · isplitr; · iexact HK
    isplitl [HO]; · iexact HO
    isplitl [Hcr]; · iexact Hcr
    iexact Hat
  iintro ⟨HO, Hz, Hp⟩
  iapply (load_xb c _) $$ Hxb; iintro Hxb
  iapply (load_sg c _) $$ Hsg; iintro Hsg
  iapply (store_sg c _) $$ Hsg; iintro Hsg
  ihave Hsg := (sg_in m c) $$ Hsg
  iapply (load_sg_own c _) $$ Hsg; iintro Hsg
  iapply (load_rx_own c _) $$ Hrx; iintro Hrx
  iapply (store_rx_own m c _ _ rfl) $$ Hrx; iintro Hrx
  iapply (seen_ret c _)
  iapply Hk
  isplitl [HO]; · iexact HO
  isplitl [Hz]; · iexact Hz
  isplitl [Hp]; · iexact Hp
  isplitl [Hxb]; · iexact Hxb
  isplitl [Hsg]; · iexact Hsg
  iexact Hrx

end Cert.Exchange

end
-- ==== Proof.PartB.lean ====
/-
The parts of the body in which slots travel out and the chunks are computed and returned.
-/
module

public import proofs.«01_k».proof.Proof.PartA

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families as regions -/

def outB (k : ℕ) : sProp 𝕄 := iprop((∃ f, rxP (dn c k) k f) ∗ dutyTok ER (xcell c 0 k) 0 0 ∗ dutyTok ER (xcell (dn c k) 1 k) 0 0)
def retB (k : ℕ) : sProp 𝕄 := iprop((∃ f, ryP (up c k) k f) ∗ dutyTok ER (xcell c 2 k) 0 0 ∗ dutyTok ER (xcell (up c k) 3 k) 0 0)

theorem out_make (a b : ℕ) : bigSep (Finset.Ico a b) (outA m c) = iprop(sgR c a b (SG m c) ∗ bigSep (Finset.Ico a b) (outB c)) := by
  unfold sgR; rw [sg_slots, ← bigSep_sep']; rfl
theorem ret_make (a b : ℕ) : bigSep (Finset.Ico a b) (retA m c) = iprop(ysR c a b (YS m c) ∗ bigSep (Finset.Ico a b) (retB c)) := by
  unfold ysR; rw [ys_slots, ← bigSep_sep']; rfl

theorem pay_sg (a b : ℕ) : bigSep (Finset.Ico a b) (xPay m c 0) = sgR c a b (SG m c) := by unfold sgR; rw [sg_slots]; rfl
theorem pay_rx (a b : ℕ) : bigSep (Finset.Ico a b) (xPay m c 1) = rxR c a b (RX m c) := by unfold rxR; rw [rx_slots]; rfl
theorem pay_ys (a b : ℕ) : bigSep (Finset.Ico a b) (xPay m c 2) = ysR c a b (YS m c) := by unfold ysR; rw [ys_slots]; rfl
theorem pay_ry (a b : ℕ) : bigSep (Finset.Ico a b) (xPay m c 3) = ryR c a b (RY m c) := by unfold ryR; rw [ry_slots]; rfl

section Cut
variable {a b d : ℕ} (h : a ≤ b) (h' : b ≤ d) (f : Vec F S32x40x512 .bf16)
include h h'
theorem sgR_cut : (sgR c a d f : sProp 𝕄) = iprop(sgR c a b f ∗ sgR c b d f) := by unfold sgR; rw [sg_slots, sg_slots, sg_slots, run_cut _ h h']
theorem rxR_cut : (rxR c a d f : sProp 𝕄) = iprop(rxR c a b f ∗ rxR c b d f) := by unfold rxR; rw [rx_slots, rx_slots, rx_slots, run_cut _ h h']
theorem ysR_cut : (ysR c a d f : sProp 𝕄) = iprop(ysR c a b f ∗ ysR c b d f) := by unfold ysR; rw [ys_slots, ys_slots, ys_slots, run_cut _ h h']
theorem ryR_cut : (ryR c a d f : sProp 𝕄) = iprop(ryR c a b f ∗ ryR c b d f) := by unfold ryR; rw [ry_slots, ry_slots, ry_slots, run_cut _ h h']
end Cut
theorem sgR_own (f : Vec F S32x40x512 .bf16) : (sgR c 31 32 f : sProp 𝕄) = sgP c 31 f := by unfold sgR; rw [sg_slots, bigSep_Ico_one]
theorem rxR_own (f : Vec F S32x40x512 .bf16) : (rxR c 31 32 f : sProp 𝕄) = rxP c 31 f := by unfold rxR; rw [rx_slots, bigSep_Ico_one]
theorem ysR_own (f : Vec F S32x40x512 .bf16) : (ysR c 31 32 f : sProp 𝕄) = ysP c 31 f := by unfold ysR; rw [ys_slots, bigSep_Ico_one]
theorem ryR_own (f : Vec F S32x40x512 .bf16) : (ryR c 31 32 f : sProp 𝕄) = ryP c 31 f := by unfold ryR; rw [ry_slots, bigSep_Ico_one]

/-! ## A loop of sends, of waits, of returns, at the head of a program -/

section Run
variable {b t : ℕ} {l : Scf.Loop 32} {hok : l.OK} {body : Fin l.trips → Unit → Prog (TpuEff nD τ sig (Elt F) Λ₀ .tc) Unit}
  {α : Type} {kk : Unit → Prog (TpuEff nD τ sig (Elt F) Λ₀ .tc) α}

theorem run_out {Q : α → sProp 𝕄} (ht : l.trips = t) (htb : t + b ≤ 31) (hform : ∀ i : Fin l.trips, OutForm c (i.val + b) (body i ⟨⟩)) :
    iprop(know m ∗ acct c 0 b 31 ∗ sgR c b (t + b) (SG m c) ∗ bigSep (Finset.Ico b (t + b)) (outB c))
      ⊢ iprop(((acct c 0 (t + b) 31 ∗ bigSep (Finset.Ico b (t + b)) (crd c 0)) -∗ seen c (kk ⟨⟩) Q)
        -∗ seen c (Scf.Loop.for l hok ⟨⟩ body >>= kk) Q) := by
  rw [← out_make]; exact loop_out m c ht htb hform
theorem run_ret {Q : α → sProp 𝕄} (ht : l.trips = t) (htb : t + b ≤ 31) (hform : ∀ i : Fin l.trips, RetForm c (i.val + b) (body i ⟨⟩)) :
    iprop(know m ∗ acct c b 31 31 ∗ ysR c b (t + b) (YS m c) ∗ bigSep (Finset.Ico b (t + b)) (retB c))
      ⊢ iprop(((acct c (t + b) 31 31 ∗ bigSep (Finset.Ico b (t + b)) (crd c 2)) -∗ seen c (kk ⟨⟩) Q)
        -∗ seen c (Scf.Loop.for l hok ⟨⟩ body >>= kk) Q) := by
  rw [← ret_make]; exact loop_ret m c ht htb hform
theorem run_sent {Q : α → sProp 𝕄} {y : ℕ} (ht : l.trips = t) (htb : t + b ≤ 31) (hform : ∀ i : Fin l.trips, WaitForm 0 (i.val + b) (body i ⟨⟩)) :
    iprop(know m ∗ acct c 0 y 31 ∗ bigSep (Finset.Ico b (t + b)) (crd c 0) ∗ bigSep (Finset.Ico b (t + b)) (pos c 0))
      ⊢ iprop(((acct c 0 y 31 ∗ bigSep (Finset.Ico b (t + b)) (zer c 0) ∗ sgR c b (t + b) (SG m c)) -∗ seen c (kk ⟨⟩) Q)
        -∗ seen c (Scf.Loop.for l hok ⟨⟩ body >>= kk) Q) := by
  rw [← pay_sg]
  exact loop_wait m c (by decide) (fun _ => by decide) (fun _ => by decide) (fun _ => by decide) ht htb hform
theorem run_recv {Q : α → sProp 𝕄} {x : ℕ} (ht : l.trips = t) (htb : t + b ≤ 31) (hform : ∀ i : Fin l.trips, WaitForm 1 (i.val + b) (body i ⟨⟩)) :
    iprop(know m ∗ acct c x 31 31 ∗ bigSep (Finset.Ico b (t + b)) (crd c 1) ∗ bigSep (Finset.Ico b (t + b)) (pos c 1))
      ⊢ iprop(((acct c x 31 31 ∗ bigSep (Finset.Ico b (t + b)) (zer c 1) ∗ rxR c b (t + b) (RX m c)) -∗ seen c (kk ⟨⟩) Q)
        -∗ seen c (Scf.Loop.for l hok ⟨⟩ body >>= kk) Q) := by
  rw [← pay_rx]
  exact loop_wait m c (by decide) (fun _ => by decide) (fun h => absurd h (by decide)) (fun h => absurd h (by decide)) ht htb hform
theorem run_done {Q : α → sProp 𝕄} (ht : l.trips = t) (htb : t + b ≤ 31) (hform : ∀ i : Fin l.trips, WaitForm 2 (i.val + b) (body i ⟨⟩)) :
    iprop(know m ∗ acct c 31 31 31 ∗ bigSep (Finset.Ico b (t + b)) (crd c 2) ∗ bigSep (Finset.Ico b (t + b)) (pos c 2))
      ⊢ iprop(((acct c 31 31 31 ∗ bigSep (Finset.Ico b (t + b)) (zer c 2) ∗ ysR c b (t + b) (YS m c)) -∗ seen c (kk ⟨⟩) Q)
        -∗ seen c (Scf.Loop.for l hok ⟨⟩ body >>= kk) Q) := by
  rw [← pay_ys]
  exact loop_wait m c (by decide) (fun h => absurd h (by decide)) (fun h => absurd h (by decide)) (fun h => absurd h (by decide)) ht htb hform
theorem run_back {Q : α → sProp 𝕄} (ht : l.trips = t) (htb : t + b ≤ 31) (hform : ∀ i : Fin l.trips, WaitForm 3 (i.val + b) (body i ⟨⟩)) :
    iprop(know m ∗ acct c 31 31 31 ∗ bigSep (Finset.Ico b (t + b)) (crd c 3) ∗ bigSep (Finset.Ico b (t + b)) (pos c 3))
      ⊢ iprop(((acct c 31 31 31 ∗ bigSep (Finset.Ico b (t + b)) (zer c 3) ∗ ryR c b (t + b) (RY m c)) -∗ seen c (kk ⟨⟩) Q)
        -∗ seen c (Scf.Loop.for l hok ⟨⟩ body >>= kk) Q) := by
  rw [← pay_ry]
  exact loop_wait m c (by decide) (fun h => absurd h (by decide)) (fun h => absurd h (by decide)) (fun h => absurd h (by decide)) ht htb hform
end Run

/-- One chunk of sends: what goes in and what comes out. -/
def chunkIn (a b : ℕ) : sProp 𝕄 := iprop(sgR c a b (SG m c) ∗ bigSep (Finset.Ico a b) (outB c) ∗ bigSep (Finset.Ico a b) (pos c 0))
def chunkOut (a b : ℕ) : sProp 𝕄 := iprop(bigSep (Finset.Ico a b) (zer c 0) ∗ sgR c a b (SG m c))

/-- A loop of sends and the loop that waits for them. -/
theorem run_chunk_out {b t : ℕ} {l l' : Scf.Loop 32} {hok : l.OK} {hok' : l'.OK}
    {body : Fin l.trips → Unit → Prog (TpuEff nD τ sig (Elt F) Λ₀ .tc) Unit} {body' : Fin l'.trips → Unit → Prog (TpuEff nD τ sig (Elt F) Λ₀ .tc) Unit}
    {α : Type} {kk : Unit → Prog (TpuEff nD τ sig (Elt F) Λ₀ .tc) α} {Q : α → sProp 𝕄} (ht : l.trips = t) (ht' : l'.trips = t) (htb : t + b ≤ 31)
    (hform : ∀ i : Fin l.trips, OutForm c (i.val + b) (body i ⟨⟩)) (hform' : ∀ i : Fin l'.trips, WaitForm 0 (i.val + b) (body' i ⟨⟩)) :
    iprop(know m ∗ acct c 0 b 31 ∗ chunkIn m c b (t + b))
      ⊢ iprop(((acct c 0 (t + b) 31 ∗ chunkOut m c b (t + b)) -∗ seen c (kk ⟨⟩) Q)
        -∗ seen c (Scf.Loop.for l hok ⟨⟩ body >>= fun _ => Scf.Loop.for l' hok' ⟨⟩ body' >>= kk) Q) := by
  unfold chunkIn chunkOut
  iintro ⟨#HK, HO, Hs, Hb, Hp⟩ Hk
  iapply (run_out m c ht htb hform) $$ [HO Hs Hb]
  · isplitr; · iexact HK
    isplitl [HO]; · iexact HO
    isplitl [Hs]; · iexact Hs
    iexact Hb
  iintro ⟨HO, Hc⟩
  iapply (run_sent m c ht' htb hform') $$ [HO Hc Hp]
  · isplitr; · iexact HK
    isplitl [HO]; · iexact HO
    isplitl [Hc]; · iexact Hc
    iexact Hp
  iexact Hk

theorem part4 {Q} (v2 c0 : BitVec 32) :
    iprop(know m ∗ acct c 0 0 31 ∗ chunkIn m c 0 8 ∗ chunkIn m c 8 16 ∗ chunkIn m c 16 24 ∗ chunkIn m c 24 31
        ∗ bigSep (Finset.Ico 0 8) (crd c 1) ∗ bigSep (Finset.Ico 0 8) (pos c 1))
      ⊢ iprop((acct c 0 31 31 ∗ chunkOut m c 0 8 ∗ chunkOut m c 8 16 ∗ chunkOut m c 16 24 ∗ chunkOut m c 24 31
          ∗ bigSep (Finset.Ico 0 8) (zer c 1) ∗ rxR c 0 8 (RX m c) -∗ Q (k0_pay18 (half (RX m c) 0 0)))
        -∗ seen c (withArgs (k0_part4 (F := F)) c v2 c0) Q) := by
  unfold withArgs
  rw [k0_part4_eq_skeleton]; unfold k0_part4_skel
  simp only [Prog.lift, Prog.bind_op, Prog.bind_ret, Prog.pure_eq_ret]
  iintro ⟨#HK, HO, H0, H1, H2, H3, Hc, Hp⟩ Hk
  iapply (run_chunk_out m c (t := 8) (b := 0) trips2 trips3 (by decide) (fun i => form2 c _ _ i) fun i => form3 c _ _ i) $$ [HO H0]
  · isplitr; · iexact HK
    isplitl [HO]; · iexact HO
    iexact H0
  iintro ⟨HO, H0⟩
  iapply (run_chunk_out m c (t := 8) (b := 8) trips4 trips5 (by decide) (fun i => form4 c _ _ i) fun i => form5 c _ _ i) $$ [HO H1]
  · isplitr; · iexact HK
    isplitl [HO]; · iexact HO
    iexact H1
  iintro ⟨HO, H1⟩
  iapply (run_chunk_out m c (t := 8) (b := 16) trips6 trips7 (by decide) (fun i => form6 c _ _ i) fun i => form7 c _ _ i) $$ [HO H2]
  · isplitr; · iexact HK
    isplitl [HO]; · iexact HO
    iexact H2
  iintro ⟨HO, H2⟩
  iapply (run_chunk_out m c (t := 7) (b := 24) trips8 trips9 (by decide) (fun i => form8 c _ _ i) fun i => form9 c _ _ i) $$ [HO H3]
  · isplitr; · iexact HK
    isplitl [HO]; · iexact HO
    iexact H3
  iintro ⟨HO, H3⟩
  iapply (run_recv m c (t := 8) (b := 0) trips10 (by decide) fun i => form10 c _ _ i) $$ [HO Hc Hp]
  · isplitr; · iexact HK
    isplitl [HO]; · iexact HO
    isplitl [Hc]; · iexact Hc
    iexact Hp
  iintro ⟨HO, Hz, Hr⟩
  iapply (load_half c _) $$ Hr; iintro Hr
  iapply (seen_ret c _)
  iapply Hk
  isplitl [HO]; · iexact HO
  isplitl [H0]; · iexact H0
  isplitl [H1]; · iexact H1
  isplitl [H2]; · iexact H2
  isplitl [H3]; · iexact H3
  isplitl [Hz]; · iexact Hz
  iexact Hr

end Cert.Exchange

end
-- ==== Proof.PartC.lean ====
/-
The parts of the body in which the chunks are computed and returned.
-/
module

public import proofs.«01_k».proof.Proof.PartB

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The weights in use. -/
def wts : sProp 𝕄 := iprop(w1P c (k0_pay4 (Wa m c)) ∗ w2P c (k0_pay5 (Wb m c)))

theorem part5 {Q} (g : Vec F S32x40x512 .bf16) :
    iprop(wts m c ∗ rxR c 0 8 (RX m c) ∗ ysR c 0 8 g)
      ⊢ iprop((wts m c ∗ rxR c 0 8 (RX m c) ∗ ysR c 0 8 (YS m c) -∗ Q (0#32))
        -∗ seen c (withArgs (k0_part5 (F := F)) (k0_pay18 (half (RX m c) 0 0))) Q) := by
  unfold withArgs wts
  rw [k0_part5_eq_skeleton]; unfold k0_part5_skel
  simp only [Prog.lift, Prog.bind_op, Prog.bind_ret, Prog.pure_eq_ret]
  iintro ⟨⟨H1, H2⟩, Hr, Hy⟩ Hk
  iapply (load_slab1 c _) $$ H1; iintro H1
  iapply (load_slab2 c _) $$ H2; iintro H2
  iapply (load_ys c _) $$ Hy; iintro Hy
  iapply (store_lower m c 0 g (pay19_eq _ _ _)) $$ Hy; iintro Hy
  unfold halfway; icases Hy with ⟨%g, %inb0, Hy⟩
  iapply (load_half c _) $$ Hr; iintro Hr
  iapply (load_slab1 c _) $$ H1; iintro H1
  iapply (load_slab2 c _) $$ H2; iintro H2
  iapply (load_ys c _) $$ Hy; iintro Hy
  iapply (store_upper m c 0 g inb0 rfl) $$ Hy; iintro Hy
  iapply (seen_ret c _)
  iapply Hk
  isplitl [H1 H2]
  · isplitl [H1]; · iexact H1
    iexact H2
  isplitl [Hr]; · iexact Hr
  iexact Hy

theorem part6 {Q} (v2 c0 : BitVec 32) (g : Vec F S32x40x512 .bf16) :
    iprop(know m ∗ acct c 0 31 31 ∗ wts m c ∗ ysR c 0 8 (YS m c) ∗ bigSep (Finset.Ico 0 8) (retB c)
        ∗ bigSep (Finset.Ico 8 16) (crd c 1) ∗ bigSep (Finset.Ico 8 16) (pos c 1) ∗ ysR c 8 16 g)
      ⊢ iprop((acct c 8 31 31 ∗ wts m c ∗ bigSep (Finset.Ico 0 8) (crd c 2) ∗ bigSep (Finset.Ico 8 16) (zer c 1) ∗ rxR c 8 16 (RX m c) ∗ halfway m c 1
          -∗ Q (k0_pay22 (half (RX m c) 8 20) (slab1 (k0_pay4 (Wa m c)) 1)))
        -∗ seen c (withArgs (k0_part6 (F := F)) c v2 c0) Q) := by
  unfold withArgs wts
  rw [k0_part6_eq_skeleton]; unfold k0_part6_skel
  simp only [Prog.lift, Prog.bind_op, Prog.bind_ret, Prog.pure_eq_ret]
  iintro ⟨#HK, HO, ⟨H1, H2⟩, Hy0, Hb, Hc, Hp, Hy⟩ Hk
  iapply (run_ret m c (t := 8) (b := 0) trips11 (by decide) fun i => form11 c _ _ i) $$ [HO Hy0 Hb]
  · isplitr; · iexact HK
    isplitl [HO]; · iexact HO
    isplitl [Hy0]; · iexact Hy0
    iexact Hb
  iintro ⟨HO, Hd⟩
  iapply (run_recv m c (t := 8) (b := 8) trips12 (by decide) fun i => form12 c _ _ i) $$ [HO Hc Hp]
  · isplitr; · iexact HK
    isplitl [HO]; · iexact HO
    isplitl [Hc]; · iexact Hc
    iexact Hp
  iintro ⟨HO, Hz, Hr⟩
  iapply (load_half c _) $$ Hr; iintro Hr
  iapply (load_slab1 c _) $$ H1; iintro H1
  iapply (load_slab2 c _) $$ H2; iintro H2
  iapply (load_ys c _) $$ Hy; iintro Hy
  iapply (store_lower m c 1 g (pay21_eq _ _ _)) $$ Hy; iintro Hy
  iapply (load_half c _) $$ Hr; iintro Hr
  iapply (load_slab1 c _) $$ H1; iintro H1
  iapply (seen_ret c _)
  iapply Hk
  isplitl [HO]; · iexact HO
  isplitl [H1 H2]
  · isplitl [H1]; · iexact H1
    iexact H2
  isplitl [Hd]; · iexact Hd
  isplitl [Hz]; · iexact Hz
  isplitl [Hr]; · iexact Hr
  iexact Hy

theorem part7 {Q} (v2 : BitVec 32) (g' : Vec F S32x40x512 .bf16) :
    iprop(know m ∗ acct c 8 31 31 ∗ wts m c ∗ halfway m c 1 ∗ bigSep (Finset.Ico 8 16) (retB c)
        ∗ bigSep (Finset.Ico 16 24) (crd c 1) ∗ bigSep (Finset.Ico 16 24) (pos c 1) ∗ ysR c 16 24 g')
      ⊢ iprop((acct c 16 31 31 ∗ wts m c ∗ bigSep (Finset.Ico 8 16) (crd c 2) ∗ bigSep (Finset.Ico 16 24) (zer c 1) ∗ rxR c 16 24 (RX m c) ∗ halfway m c 2
          -∗ Q ⟨⟩)
        -∗ seen c (withArgs (k0_part7 (F := F)) c v2 (k0_pay22 (half (RX m c) 8 20) (slab1 (k0_pay4 (Wa m c)) 1))) Q) := by
  unfold withArgs wts
  rw [k0_part7_eq_skeleton]; unfold k0_part7_skel
  simp only [Prog.lift, Prog.bind_op, Prog.bind_ret, Prog.pure_eq_ret]
  iintro ⟨#HK, HO, ⟨H1, H2⟩, Hy0, Hb, Hc, Hp, Hy⟩ Hk
  unfold halfway; icases Hy0 with ⟨%g, %inb0, Hy0⟩
  iapply (load_slab2 c _) $$ H2; iintro H2
  iapply (load_ys c _) $$ Hy0; iintro Hy0
  iapply (store_upper m c 1 g inb0 (pay23_eq _ _ _)) $$ Hy0; iintro Hy0
  iapply (run_ret m c (t := 8) (b := 8) trips13 (by decide) fun i => form13 c _ _ i) $$ [HO Hy0 Hb]
  · isplitr; · iexact HK
    isplitl [HO]; · iexact HO
    isplitl [Hy0]; · iexact Hy0
    iexact Hb
  iintro ⟨HO, Hd⟩
  iapply (run_recv m c (t := 8) (b := 16) trips14 (by decide) fun i => form14 c _ _ i) $$ [HO Hc Hp]
  · isplitr; · iexact HK
    isplitl [HO]; · iexact HO
    isplitl [Hc]; · iexact Hc
    iexact Hp
  iintro ⟨HO, Hz, Hr⟩
  iapply (load_half c _) $$ Hr; iintro Hr
  iapply (load_slab1 c _) $$ H1; iintro H1
  iapply (load_slab2 c _) $$ H2; iintro H2
  iapply (load_ys c _) $$ Hy; iintro Hy
  iapply (store_lower m c 2 g' (pay24_eq _ _ _)) $$ Hy; iintro Hy
  iapply (seen_ret c _)
  iapply Hk
  isplitl [HO]; · iexact HO
  isplitl [H1 H2]
  · isplitl [H1]; · iexact H1
    iexact H2
  isplitl [Hd]; · iexact Hd
  isplitl [Hz]; · iexact Hz
  isplitl [Hr]; · iexact Hr
  unfold halfway; iexact Hy

theorem rx_last : iprop(rxR c 24 31 (RX m c) ∗ rxP c 31 (RX m c)) ⊢ (rxR c 24 32 (RX m c) : sProp 𝕄) := by
  rw [rxR_cut c (show 24 ≤ 31 by decide) (show 31 ≤ 32 by decide), rxR_own]

theorem part8 {Q} (v2 : BitVec 32) :
    iprop(know m ∗ acct c 16 31 31 ∗ wts m c ∗ halfway m c 2 ∗ rxR c 16 24 (RX m c) ∗ bigSep (Finset.Ico 16 24) (retB c)
        ∗ bigSep (Finset.Ico 24 31) (crd c 1) ∗ bigSep (Finset.Ico 24 31) (pos c 1) ∗ rxP c 31 (RX m c))
      ⊢ iprop((acct c 24 31 31 ∗ wts m c ∗ rxR c 16 24 (RX m c) ∗ bigSep (Finset.Ico 16 24) (crd c 2) ∗ bigSep (Finset.Ico 24 31) (zer c 1) ∗ rxR c 24 32 (RX m c)
          -∗ Q (k0_pay26 (half (RX m c) 24 0) (slab1 (k0_pay4 (Wa m c)) 0)))
        -∗ seen c (withArgs (k0_part8 (F := F)) c v2) Q) := by
  unfold withArgs wts
  rw [k0_part8_eq_skeleton]; unfold k0_part8_skel
  simp only [Prog.lift, Prog.bind_op, Prog.bind_ret, Prog.pure_eq_ret]
  iintro ⟨#HK, HO, ⟨H1, H2⟩, Hy0, Hr0, Hb, Hc, Hp, Hro⟩ Hk
  unfold halfway; icases Hy0 with ⟨%g, %inb0, Hy0⟩
  iapply (load_half c _) $$ Hr0; iintro Hr0
  iapply (load_slab1 c _) $$ H1; iintro H1
  iapply (load_slab2 c _) $$ H2; iintro H2
  iapply (load_ys c _) $$ Hy0; iintro Hy0
  iapply (store_upper m c 2 g inb0 (pay25_eq _ _ _)) $$ Hy0; iintro Hy0
  iapply (run_ret m c (t := 8) (b := 16) trips15 (by decide) fun i => form15 c _ i) $$ [HO Hy0 Hb]
  · isplitr; · iexact HK
    isplitl [HO]; · iexact HO
    isplitl [Hy0]; · iexact Hy0
    iexact Hb
  iintro ⟨HO, Hd⟩
  iapply (run_recv m c (t := 7) (b := 24) trips16 (by decide) fun i => form16 c _ i) $$ [HO Hc Hp]
  · isplitr; · iexact HK
    isplitl [HO]; · iexact HO
    isplitl [Hc]; · iexact Hc
    iexact Hp
  iintro ⟨HO, Hz, Hr⟩
  ihave Hr := (rx_last m c) $$ [Hr Hro]
  · isplitl [Hr]; · iexact Hr
    iexact Hro
  iapply (load_half c _) $$ Hr; iintro Hr
  iapply (load_slab1 c _) $$ H1; iintro H1
  iapply (seen_ret c _)
  iapply Hk
  isplitl [HO]; · iexact HO
  isplitl [H1 H2]
  · isplitl [H1]; · iexact H1
    iexact H2
  isplitl [Hr0]; · iexact Hr0
  isplitl [Hd]; · iexact Hd
  isplitl [Hz]; · iexact Hz
  iexact Hr

theorem part9 {Q} (g g' : Vec F S32x40x512 .bf16) :
    iprop(wts m c ∗ rxR c 24 32 (RX m c) ∗ ysR c 24 32 g ∗ ryP c 31 g')
      ⊢ iprop((wts m c ∗ rxR c 24 32 (RX m c) ∗ ysR c 24 32 (YS m c) ∗ ryP c 31 (RY m c) -∗ Q (24#32))
        -∗ seen c (withArgs (k0_part9 (F := F)) (k0_pay26 (half (RX m c) 24 0) (slab1 (k0_pay4 (Wa m c)) 0))) Q) := by
  unfold withArgs wts
  rw [k0_part9_eq_skeleton]; unfold k0_part9_skel
  simp only [Prog.lift, Prog.bind_op, Prog.bind_ret, Prog.pure_eq_ret]
  iintro ⟨⟨H1, H2⟩, Hr, Hy, Hb⟩ Hk
  iapply (load_slab2 c _) $$ H2; iintro H2
  iapply (load_ys c _) $$ Hy; iintro Hy
  iapply (store_lower m c 3 g (pay27_eq _ _ _)) $$ Hy; iintro Hy
  unfold halfway; icases Hy with ⟨%g, %inb0, Hy⟩
  iapply (load_half c _) $$ Hr; iintro Hr
  iapply (load_slab1 c _) $$ H1; iintro H1
  iapply (load_slab2 c _) $$ H2; iintro H2
  iapply (load_ys c _) $$ Hy; iintro Hy
  iapply (store_upper m c 3 g inb0 (pay28_eq _ _ _)) $$ Hy; iintro Hy
  iapply (load_ys_own c _) $$ Hy; iintro Hy
  iapply (load_ry_own c _) $$ Hb; iintro Hb
  iapply (store_ry_own m c _ _ rfl) $$ Hb; iintro Hb
  iapply (seen_ret c _)
  iapply Hk
  isplitl [H1 H2]
  · isplitl [H1]; · iexact H1
    iexact H2
  isplitl [Hr]; · iexact Hr
  isplitl [Hy]; · iexact Hy
  iexact Hb

theorem part10 {Q} (v2 c0 : BitVec 32) (g : Vec F S512x512 .f32) :
    iprop(know m ∗ acct c 24 31 31 ∗ ysR c 24 31 (YS m c) ∗ bigSep (Finset.Ico 24 31) (retB c)
        ∗ bigSep (Finset.Ico 0 8) (crd c 3) ∗ bigSep (Finset.Ico 0 8) (pos c 3) ∗ bigSep (Finset.Ico 8 16) (crd c 3) ∗ bigSep (Finset.Ico 8 16) (pos c 3)
        ∗ bigSep (Finset.Ico 16 24) (crd c 3) ∗ bigSep (Finset.Ico 16 24) (pos c 3) ∗ outP c g)
      ⊢ iprop((acct c 31 31 31 ∗ bigSep (Finset.Ico 24 31) (crd c 2)
          ∗ bigSep (Finset.Ico 0 8) (zer c 3) ∗ bigSep (Finset.Ico 8 16) (zer c 3) ∗ bigSep (Finset.Ico 16 24) (zer c 3)
          ∗ ryR c 0 8 (RY m c) ∗ ryR c 8 16 (RY m c) ∗ ryR c 16 24 (RY m c) ∗ outP c (out1 m c)
          -∗ Q (k0_pay32 (PA m c) (band (RY m c) 16)))
        -∗ seen c (withArgs (k0_part10 (F := F)) c v2 (PA m c) c0) Q) := by
  unfold withArgs out1 out0
  rw [k0_part10_eq_skeleton]; unfold k0_part10_skel
  simp only [Prog.lift, Prog.bind_op, Prog.bind_ret, Prog.pure_eq_ret]
  iintro ⟨#HK, HO, Hy, Hb, Hc0, Hp0, Hc1, Hp1, Hc2, Hp2, Hout⟩ Hk
  iapply (run_ret m c (t := 7) (b := 24) trips17 (by decide) fun i => form17 c _ _ _ i) $$ [HO Hy Hb]
  · isplitr; · iexact HK
    isplitl [HO]; · iexact HO
    isplitl [Hy]; · iexact Hy
    iexact Hb
  iintro ⟨HO, Hd⟩
  iapply (run_back m c (t := 8) (b := 0) trips18 (by decide) fun i => form18 c _ _ _ i) $$ [HO Hc0 Hp0]
  · isplitr; · iexact HK
    isplitl [HO]; · iexact HO
    isplitl [Hc0]; · iexact Hc0
    iexact Hp0
  iintro ⟨HO, Hz0, Hr0⟩
  iapply (load_band c _) $$ Hr0; iintro Hr0
  iapply (load_out c _) $$ Hout; iintro Hout
  iapply (store_out c _) $$ Hout; iintro Hout
  iapply (run_back m c (t := 8) (b := 8) trips19 (by decide) fun i => form19 c _ _ _ i) $$ [HO Hc1 Hp1]
  · isplitr; · iexact HK
    isplitl [HO]; · iexact HO
    isplitl [Hc1]; · iexact Hc1
    iexact Hp1
  iintro ⟨HO, Hz1, Hr1⟩
  iapply (load_band c _) $$ Hr1; iintro Hr1
  iapply (load_out c _) $$ Hout; iintro Hout
  iapply (load_out c _) $$ Hout; iintro Hout
  iapply (store_out c _) $$ Hout; iintro Hout
  iapply (run_back m c (t := 8) (b := 16) trips20 (by decide) fun i => form20 c _ _ _ i) $$ [HO Hc2 Hp2]
  · isplitr; · iexact HK
    isplitl [HO]; · iexact HO
    isplitl [Hc2]; · iexact Hc2
    iexact Hp2
  iintro ⟨HO, Hz2, Hr2⟩
  iapply (load_band c _) $$ Hr2; iintro Hr2
  iapply (seen_ret c _)
  iapply Hk
  isplitl [HO]; · iexact HO
  isplitl [Hd]; · iexact Hd
  isplitl [Hz0]; · iexact Hz0
  isplitl [Hz1]; · iexact Hz1
  isplitl [Hz2]; · iexact Hz2
  isplitl [Hr0]; · iexact Hr0
  isplitl [Hr1]; · iexact Hr1
  isplitl [Hr2]; · iexact Hr2
  iexact Hout

end Cert.Exchange

end
-- ==== Proof.Ends.lean ====
/-
The whole body: from what a device starts with to what it ends with.
-/
module

public import proofs.«01_k».proof.Proof.PartC

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What a device starts with, and what it ends with -/

def toks : sProp 𝕄 := iprop(bigSep (Finset.Ico 0 31) (fun k => dutyTok ER (xcell c 0 k) 0 0) ∗ bigSep (Finset.Ico 0 31) (fun k => dutyTok ER (xcell (dn c k) 1 k) 0 0)
  ∗ bigSep (Finset.Ico 0 31) (fun k => dutyTok ER (xcell c 2 k) 0 0) ∗ bigSep (Finset.Ico 0 31) (fun k => dutyTok ER (xcell (up c k) 3 k) 0 0))
def marks : sProp 𝕄 := iprop(bigSep (Finset.Ico 0 32) (pos c 0) ∗ bigSep (Finset.Ico 0 32) (pos c 1) ∗ bigSep (Finset.Ico 0 32) (pos c 2) ∗ bigSep (Finset.Ico 0 32) (pos c 3))
def zeros : sProp 𝕄 := iprop(bigSep (Finset.Ico 0 32) (zer c 0) ∗ bigSep (Finset.Ico 0 32) (zer c 1) ∗ bigSep (Finset.Ico 0 32) (zer c 2) ∗ bigSep (Finset.Ico 0 32) (zer c 3))
/-- What a device starts with, apart from its buffers. -/
def begins : sProp 𝕄 := iprop(acct c 0 0 0 ∗ atPos ER (barCell c) 0 ∅ 0 ∗ marks c ∗ bigSep (Finset.Ico 0 31) (fun k => dutyTok ER (barCell (dn c k)) 0 k) ∗ toks c
  ∗ cred (tallyAt (barCell c) () 31) ∗ bigSep (Finset.Ico 0 31) (crd c 1) ∗ bigSep (Finset.Ico 0 31) (crd c 3))
/-- What it ends with, apart from its buffers. -/
def ends : sProp 𝕄 := iprop(acct c 31 31 31 ∗ semVal (barCell c) 0 ∗ zeros c)

def ryW (w : Vec F S32x40x512 .bf16) : sProp 𝕄 := ((c : Thread nD τ).loc cc0_scratch3) ↦{fullShare} w
def rxW (w : Vec F S32x40x512 .bf16) : sProp 𝕄 := ((c : Thread nD τ).loc cc0_scratch1) ↦{fullShare} w
def ysW (w : Vec F S32x40x512 .bf16) : sProp 𝕄 := ((c : Thread nD τ).loc cc0_scratch2) ↦{fullShare} w
theorem rxR_all (f : Vec F S32x40x512 .bf16) : (rxR c 0 32 f : sProp 𝕄) = rxW c f := by unfold rxR rxW; rw [slots_all]
theorem ysR_all (f : Vec F S32x40x512 .bf16) : (ysR c 0 32 f : sProp 𝕄) = ysW c f := by unfold ysR ysW; rw [slots_all]
theorem ryR_all (f : Vec F S32x40x512 .bf16) : (ryR c 0 32 f : sProp 𝕄) = ryW c f := by unfold ryR ryW; rw [slots_all]

/-- The scratch buffers, whatever they hold. -/
def scratch : sProp 𝕄 := iprop((∃ f, sgW c f) ∗ (∃ f, rxW c f) ∗ (∃ f, ysW c f) ∗ (∃ f, ryW c f) ∗ (∃ f, w1P c f) ∗ (∃ f, w2P c f) ∗ ∃ f, xbP c f)

/-! ## Rearrangements -/

theorem signals_ready (f g : Vec F S32x40x512 .bf16) :
    iprop(bigSep (Finset.Ico 0 31) (fun k => dutyTok ER (barCell (dn c k)) 0 k) ∗ rxW c f ∗ ryW c g)
      ⊢ iprop(bigSep (Finset.Ico 0 31) (sigA c) ∗ rxP c 31 f ∗ ryP c 31 g) := by
  unfold rxW ryW
  rw [rx_whole, ry_whole, run_last, run_last]
  iintro ⟨Ht, ⟨Hx, Hx'⟩, Hy, Hy'⟩
  isplitl [Ht Hx Hy]
  · iapply (sigA_intro c f g)
    isplitl [Ht]; · iexact Ht
    isplitl [Hx]; · iexact Hx
    iexact Hy
  isplitl [Hx']; · iexact Hx'
  iexact Hy'

theorem landings (P₀ P₁ P₂ P₃ : ℕ → sProp 𝕄) (h : P₀ = fun k => dutyTok ER (xcell c 0 k) 0 0) (h₁ : P₁ = fun k => dutyTok ER (xcell (dn c k) 1 k) 0 0)
    (h₂ : P₂ = fun k => dutyTok ER (xcell c 2 k) 0 0) (h₃ : P₃ = fun k => dutyTok ER (xcell (up c k) 3 k) 0 0) :
    iprop(bigSep (Finset.range 31) (fun k => barPay c k) ∗ bigSep (Finset.Ico 0 31) P₀ ∗ bigSep (Finset.Ico 0 31) P₁ ∗ bigSep (Finset.Ico 0 31) P₂ ∗ bigSep (Finset.Ico 0 31) P₃)
      ⊢ iprop(bigSep (Finset.Ico 0 31) (outB c) ∗ bigSep (Finset.Ico 0 31) (retB c)) := by
  subst h h₁ h₂ h₃
  have e : bigSep (Finset.Ico 0 31) (outB (F := F) c) = iprop(bigSep (Finset.Ico 0 31) (fun k => iprop(∃ f, rxP (dn c k) k f))
      ∗ bigSep (Finset.Ico 0 31) (fun k => dutyTok ER (xcell c 0 k) 0 0) ∗ bigSep (Finset.Ico 0 31) (fun k => dutyTok ER (xcell (dn c k) 1 k) 0 0)) := by
    unfold outB; rw [bigSep_sep', bigSep_sep']
  have e' : bigSep (Finset.Ico 0 31) (retB (F := F) c) = iprop(bigSep (Finset.Ico 0 31) (fun k => iprop(∃ f, ryP (up c k) k f))
      ∗ bigSep (Finset.Ico 0 31) (fun k => dutyTok ER (xcell c 2 k) 0 0) ∗ bigSep (Finset.Ico 0 31) (fun k => dutyTok ER (xcell (up c k) 3 k) 0 0)) := by
    unfold retB; rw [bigSep_sep', bigSep_sep']
  rw [e, e']
  iintro ⟨Hb, H0, H1, H2, H3⟩
  ihave Hb := (barPay_elim c) $$ Hb
  icases Hb with ⟨Hx, Hy⟩
  isplitl [Hx H0 H1]
  · isplitl [Hx]; · iexact Hx
    isplitl [H0]; · iexact H0
    iexact H1
  isplitl [Hy]; · iexact Hy
  isplitl [H2]; · iexact H2
  iexact H3

theorem four_sg (f : Vec F S32x40x512 .bf16) : (sgR c 0 32 f : sProp 𝕄) = iprop(sgR c 0 8 f ∗ sgR c 8 16 f ∗ sgR c 16 24 f ∗ sgR c 24 31 f ∗ sgP c 31 f) := by
  rw [sgR_cut c (show 0 ≤ 8 by decide) (show 8 ≤ 32 by decide), sgR_cut c (show 8 ≤ 16 by decide) (show 16 ≤ 32 by decide),
    sgR_cut c (show 16 ≤ 24 by decide) (show 24 ≤ 32 by decide), sgR_cut c (show 24 ≤ 31 by decide) (show 31 ≤ 32 by decide), sgR_own]
theorem four_rx (f : Vec F S32x40x512 .bf16) : (rxR c 0 32 f : sProp 𝕄) = iprop(rxR c 0 8 f ∗ rxR c 8 16 f ∗ rxR c 16 24 f ∗ rxR c 24 32 f) := by
  rw [rxR_cut c (show 0 ≤ 8 by decide) (show 8 ≤ 32 by decide), rxR_cut c (show 8 ≤ 16 by decide) (show 16 ≤ 32 by decide),
    rxR_cut c (show 16 ≤ 24 by decide) (show 24 ≤ 32 by decide)]
theorem four_ys (f : Vec F S32x40x512 .bf16) : (ysR c 0 32 f : sProp 𝕄) = iprop(ysR c 0 8 f ∗ ysR c 8 16 f ∗ ysR c 16 24 f ∗ ysR c 24 32 f) := by
  rw [ysR_cut c (show 0 ≤ 8 by decide) (show 8 ≤ 32 by decide), ysR_cut c (show 8 ≤ 16 by decide) (show 16 ≤ 32 by decide),
    ysR_cut c (show 16 ≤ 24 by decide) (show 24 ≤ 32 by decide)]
theorem four_ry (f : Vec F S32x40x512 .bf16) : (ryR c 0 32 f : sProp 𝕄) = iprop(ryR c 0 8 f ∗ ryR c 8 16 f ∗ ryR c 16 24 f ∗ ryR c 24 32 f) := by
  rw [ryR_cut c (show 0 ≤ 8 by decide) (show 8 ≤ 32 by decide), ryR_cut c (show 8 ≤ 16 by decide) (show 16 ≤ 32 by decide),
    ryR_cut c (show 16 ≤ 24 by decide) (show 24 ≤ 32 by decide)]

theorem chunks_in : iprop(sgR c 0 32 (SG m c) ∗ bigSep (Finset.Ico 0 31) (outB c) ∗ bigSep (Finset.Ico 0 31) (pos c 0))
    ⊢ iprop(chunkIn m c 0 8 ∗ chunkIn m c 8 16 ∗ chunkIn m c 16 24 ∗ chunkIn m c 24 31 ∗ sgP c 31 (SG m c)) := by
  rw [four_sg, run_four, run_four]; unfold chunkIn
  iintro ⟨⟨A0, A1, A2, A3, A4⟩, ⟨B0, B1, B2, B3⟩, C0, C1, C2, C3⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2 B2 C2]
  · isplitl [A2]; · iexact A2
    isplitl [B2]; · iexact B2
    iexact C2
  isplitl [A3 B3 C3]
  · isplitl [A3]; · iexact A3
    isplitl [B3]; · iexact B3
    iexact C3
  iexact A4

theorem chunks_out : iprop(chunkOut m c 0 8 ∗ chunkOut m c 8 16 ∗ chunkOut m c 16 24 ∗ chunkOut m c 24 31 ∗ sgP c 31 (SG m c))
    ⊢ iprop(sgR c 0 32 (SG m c) ∗ bigSep (Finset.Ico 0 31) (zer c 0)) := by
  rw [four_sg, run_four]; unfold chunkOut
  iintro ⟨⟨C0, A0⟩, ⟨C1, A1⟩, ⟨C2, A2⟩, ⟨C3, A3⟩, A4⟩
  isplitl [A0 A1 A2 A3 A4]
  · isplitl [A0]; · iexact A0
    isplitl [A1]; · iexact A1
    isplitl [A2]; · iexact A2
    isplitl [A3]; · iexact A3
    iexact A4
  isplitl [C0]; · iexact C0
  isplitl [C1]; · iexact C1
  isplitl [C2]; · iexact C2
  iexact C3

/-- The idle cells are closed, and the semaphores are the device's own again. -/
theorem close_all : iprop(know m ∗ bigSep (Finset.Ico 0 31) (zer c 0) ∗ bigSep (Finset.Ico 0 31) (zer c 1) ∗ bigSep (Finset.Ico 0 31) (zer c 2) ∗ bigSep (Finset.Ico 0 31) (zer c 3)
    ∗ pos c 0 31 ∗ pos c 1 31 ∗ pos c 2 31 ∗ pos c 3 31) ⊢ |={Set.univ}=> zeros c := by
  unfold zeros
  rw [run_last, run_last, run_last, run_last]
  unfold pos
  iintro ⟨#HK, Z0, Z1, Z2, Z3, P0, P1, P2, P3⟩
  imod (close_idle m c (j := 0) (by decide)) $$ [P0] with P0
  · isplitr; · iexact HK
    iexact P0
  imod (close_idle m c (j := 1) (by decide)) $$ [P1] with P1
  · isplitr; · iexact HK
    iexact P1
  imod (close_idle m c (j := 2) (by decide)) $$ [P2] with P2
  · isplitr; · iexact HK
    iexact P2
  imod (close_idle m c (j := 3) (by decide)) $$ [P3] with P3
  · isplitr; · iexact HK
    iexact P3
  imodintro
  isplitl [Z0 P0]
  · isplitl [Z0]; · iexact Z0
    unfold zer; iexact P0
  isplitl [Z1 P1]
  · isplitl [Z1]; · iexact Z1
    unfold zer; iexact P1
  isplitl [Z2 P2]
  · isplitl [Z2]; · iexact Z2
    unfold zer; iexact P2
  isplitl [Z3]; · iexact Z3
  unfold zer; iexact P3

end Cert.Exchange

end
-- ==== Proof.Body.lean ====
/-
The whole body of the kernel, run from what a device starts with to what it ends with.
-/
module

public import proofs.«01_k».proof.Proof.Ends

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem seen_done {α : Type} {Q : α → sProp 𝕄} (v : α) : (iprop(|={Set.univ}=> Q v) : sProp 𝕄) ⊢ seen c (.ret v) Q := by
  show (iprop(|={Set.univ}=> Q v) : sProp 𝕄) ⊢ wp frame (wpE (defs₀ (F := F)) 𝒱₀ (c : Thread nD τ) none) Set.univ (.ret v) Q
  rw [wp_ret]

theorem last_ry : iprop(ryR c 24 31 (RY m c) ∗ ryP c 31 (RY m c)) ⊢ ryR c 24 32 (RY m c) := by
  rw [ryR_cut c (show 24 ≤ 31 by decide) (show 31 ≤ 32 by decide), ryR_own]
theorem last_ys : iprop(ysR c 0 31 (YS m c) ∗ ysP c 31 (YS m c)) ⊢ ysW c (YS m c) := by
  rw [← ysR_all, ysR_cut c (show 0 ≤ 31 by decide) (show 31 ≤ 32 by decide), ysR_own]
theorem ys_out (g : Vec F S32x40x512 .bf16) : ysR c 24 32 g ⊢ iprop(ysR c 24 31 g ∗ ysP c 31 g) := by
  rw [ysR_cut c (show 24 ≤ 31 by decide) (show 31 ≤ 32 by decide), ysR_own]

/-- The tail of the body: the third chunk's result is stored, the last chunk is awaited and added, and the returns that this device sent are awaited. -/
theorem tail {Q : PUnit → sProp 𝕄} :
    iprop(know m ∗ acct c 31 31 31 ∗ outP c (out1 m c) ∗ bigSep (Finset.Ico 24 31) (crd c 3) ∗ bigSep (Finset.Ico 24 31) (pos c 3) ∗ ryP c 31 (RY m c)
        ∗ bigSep (Finset.Ico 0 31) (crd c 2) ∗ bigSep (Finset.Ico 0 31) (pos c 2))
      ⊢ iprop((acct c 31 31 31 ∗ outP c (out3 m c) ∗ bigSep (Finset.Ico 24 31) (zer c 3) ∗ ryR c 24 32 (RY m c)
          ∗ bigSep (Finset.Ico 0 31) (zer c 2) ∗ ysR c 0 31 (YS m c) -∗ |={Set.univ}=> Q ⟨⟩)
        -∗ seen c (
          .op (.load (Memref.whole cc0_stg4_0 : Memref sig .tc .vmem S512x512 .f32) (Rect.unit (s := S512x512) ![0, 0] S512x512.size inb_S512x512_S512x512_0_0).toLoadRect (View.loadsAt_vmem h_S512x512)) fun v286 =>
          .op (.load (Memref.whole cc0_stg4_0 : Memref sig .tc .vmem S512x512 .f32) (Rect.unit (s := S512x512) ![0, 0] S512x512.size inb_S512x512_S512x512_0_0).toLoadRect (View.loadsAt_vmem h_S512x512)) fun v289 =>
          .op (.store (Memref.whole cc0_stg4_0 : Memref sig .tc .vmem S512x512 .f32) (Rect.unit (s := S512x512) ![0, 0] S512x512.size inb_S512x512_S512x512_0_0) (k0_pay1 (k0_pay32 (PA m c) (band (RY m c) 16)) v286) Finset.univ (View.stores_vmem_bits_univ h_S512x512 rfl) (.inl rfl)) fun _ =>
          Scf.Loop.for k0_t21_loop k0_t21_ok ⟨⟩ (withArgs (k0_t21_body (F := F))) >>= fun _ =>
          .op (.load ryM (Rect.unit (s := S32x40x512) ![24, 0, 0] S8x40x512.size inb_S32x40x512_S8x40x512_24_0_0).toLoadRect (View.loadsAt_vmem h_S8x40x512)) fun v292 =>
          .op (.load (Memref.whole cc0_stg4_0 : Memref sig .tc .vmem S512x512 .f32) (Rect.unit (s := S512x512) ![0, 0] S512x512.size inb_S512x512_S512x512_0_0).toLoadRect (View.loadsAt_vmem h_S512x512)) fun v295 =>
          .op (.load (Memref.whole cc0_stg4_0 : Memref sig .tc .vmem S512x512 .f32) (Rect.unit (s := S512x512) ![0, 0] S512x512.size inb_S512x512_S512x512_0_0).toLoadRect (View.loadsAt_vmem h_S512x512)) fun v298 =>
          .op (.store (Memref.whole cc0_stg4_0 : Memref sig .tc .vmem S512x512 .f32) (Rect.unit (s := S512x512) ![0, 0] S512x512.size inb_S512x512_S512x512_0_0) (k0_pay2 (PA m c) v292 v295) Finset.univ (View.stores_vmem_bits_univ h_S512x512 rfl) (.inl rfl)) fun _ =>
          Scf.Loop.for k0_t22_loop k0_t22_ok ⟨⟩ (withArgs (k0_t22_body (F := F))) >>= fun _ => .ret ⟨⟩) Q) := by
  unfold out3 out2
  iintro ⟨#HK, HO, Hout, Hc, Hp, Hy, Hc2, Hp2⟩ Hk
  iapply (load_out c _) $$ Hout; iintro Hout
  iapply (load_out c _) $$ Hout; iintro Hout
  iapply (store_out c _) $$ Hout; iintro Hout
  iapply (run_back m c (t := 7) (b := 24) trips21 (by decide) form21) $$ [HO Hc Hp]
  · isplitr; · iexact HK
    isplitl [HO]; · iexact HO
    isplitl [Hc]; · iexact Hc
    iexact Hp
  iintro ⟨HO, Hz, Hr⟩
  ihave Hr := (last_ry m c) $$ [Hr Hy]
  · isplitl [Hr]; · iexact Hr
    iexact Hy
  iapply (load_band c _) $$ Hr; iintro Hr
  iapply (load_out c _) $$ Hout; iintro Hout
  iapply (load_out c _) $$ Hout; iintro Hout
  iapply (store_out c _) $$ Hout; iintro Hout
  iapply (run_done m c (t := 31) (b := 0) trips22 (by decide) form22) $$ [HO Hc2 Hp2]
  · isplitr; · iexact HK
    isplitl [HO]; · iexact HO
    isplitl [Hc2]; · iexact Hc2
    iexact Hp2
  iintro ⟨HO, Hz2, Hs⟩
  iapply (seen_done c _)
  iapply Hk
  isplitl [HO]; · iexact HO
  isplitl [Hout]; · iexact Hout
  isplitl [Hz]; · iexact Hz
  isplitl [Hr]; · iexact Hr
  isplitl [Hz2]; · iexact Hz2
  iexact Hs

/-- The whole body. -/
theorem body_run {Q : PUnit → sProp 𝕄} :
    iprop(know m ∗ begins c ∗ args m c ∗ (∃ f, outP c f) ∗ scratch c)
      ⊢ iprop((ends c ∗ args m c ∗ outP c (out3 m c) ∗ scratch c -∗ Q ⟨⟩) -∗ seen c (withArgs (cc0_body (F := F))) Q) := by
  unfold withArgs
  rw [cc0_body_eq_skeleton]; unfold cc0_body_skel
  simp only [Prog.lift, Prog.bind_op, Prog.bind_ret, Prog.pure_eq_ret]
  unfold begins marks toks scratch ends
  rw [run_last (pos c 0), run_last (pos c 1), run_last (pos c 2), run_last (pos c 3), run_four (crd c 1), run_four (pos c 1), run_four (crd c 3), run_four (pos c 3)]
  iintro ⟨#HK, ⟨HO, Hpb, ⟨Hp0, Hp1, Hp2, Hp3⟩, Hts, ⟨Ht0, Ht1, Ht2, Ht3⟩, Hcb, Hc1, Hc3⟩, Ha, ⟨%o, Hout⟩, ⟨%gs, Hs⟩, ⟨%gx, Hx⟩, ⟨%gz, Hz⟩, ⟨%gy, Hy⟩, ⟨%w₁, Hw1⟩, ⟨%w₂, Hw2⟩, ⟨%xb, Hxb⟩⟩ Hk
  ihave Hsig := (signals_ready c gx gy) $$ [Hts Hx Hy]
  · isplitl [Hts]; · iexact Hts
    isplitl [Hx]; · iexact Hx
    iexact Hy
  icases Hsig with ⟨Hsig, Hxo, Hyo⟩
  icases Hp0 with ⟨Hp0, Hp0o⟩
  icases Hp1 with ⟨Hp1, Hp1o⟩
  icases Hp2 with ⟨Hp2, Hp2o⟩
  icases Hp3 with ⟨Hp3, Hp3o⟩
  iapply (seen_bind c _ _)
  iapply (part1 m c xb w₁ w₂) $$ [Ha Hxb Hw1 Hw2]
  · isplitl [Ha]; · iexact Ha
    isplitl [Hxb]; · iexact Hxb
    isplitl [Hw1]; · iexact Hw1
    iexact Hw2
  iintro ⟨Ha, Hcp⟩
  unfold copies
  icases Hcp with ⟨Hxb, Hw1, Hw2⟩
  dsimp only
  iapply (seen_bind c _ _)
  iapply (part2 c _ _ _)
  dsimp only
  iapply (seen_bind c _ _)
  iapply (part3 m c _ rfl gs gx) $$ [HO Hsig Hcb Hpb Hxb Hs Hxo]
  · isplitr; · iexact HK
    isplitl [HO]; · iexact HO
    isplitl [Hsig]; · iexact Hsig
    isplitl [Hcb]; · iexact Hcb
    isplitl [Hpb]; · iexact Hpb
    isplitl [Hxb]; · iexact Hxb
    isplitl [Hs]; · iexact Hs
    iexact Hxo
  iintro ⟨HO, Hzb, Hbar, Hxb, Hs, Hxo⟩
  dsimp only
  ihave Hland := (landings c _ _ _ _ rfl rfl rfl rfl) $$ [Hbar Ht0 Ht1 Ht2 Ht3]
  · isplitl [Hbar]; · iexact Hbar
    isplitl [Ht0]; · iexact Ht0
    isplitl [Ht1]; · iexact Ht1
    isplitl [Ht2]; · iexact Ht2
    iexact Ht3
  icases Hland with ⟨Hob, Hrb⟩
  ihave Hch := (chunks_in m c) $$ [Hs Hob Hp0]
  · isplitl [Hs]; · iexact Hs
    isplitl [Hob]; · iexact Hob
    iexact Hp0
  icases Hch with ⟨Hi0, Hi1, Hi2, Hi3, Hso⟩
  ihave Hrb := (Entails.of_eq (run_four (retB c))) $$ Hrb
  icases Hc1 with ⟨Hc10, Hc11, Hc12, Hc13⟩
  icases Hp1 with ⟨Hp10, Hp11, Hp12, Hp13⟩
  icases Hrb with ⟨Hrb0, Hrb1, Hrb2, Hrb3⟩
  icases Hc3 with ⟨Hc30, Hc31, Hc32, Hc33⟩
  icases Hp3 with ⟨Hp30, Hp31, Hp32, Hp33⟩
  iapply (seen_bind c _ _)
  iapply (part4 m c _ _) $$ [HO Hi0 Hi1 Hi2 Hi3 Hc10 Hp10]
  · isplitr; · iexact HK
    isplitl [HO]; · iexact HO
    isplitl [Hi0]; · iexact Hi0
    isplitl [Hi1]; · iexact Hi1
    isplitl [Hi2]; · iexact Hi2
    isplitl [Hi3]; · iexact Hi3
    isplitl [Hc10]; · iexact Hc10
    iexact Hp10
  iintro ⟨HO, Ho0, Ho1, Ho2, Ho3, Hz10, Hr0⟩
  ihave Hsd := (chunks_out m c) $$ [Ho0 Ho1 Ho2 Ho3 Hso]
  · isplitl [Ho0]; · iexact Ho0
    isplitl [Ho1]; · iexact Ho1
    isplitl [Ho2]; · iexact Ho2
    isplitl [Ho3]; · iexact Ho3
    iexact Hso
  icases Hsd with ⟨Hs, Hz0⟩
  ihave Hz := (Entails.of_eq ((ysR_all c gz).symm.trans (four_ys c gz))) $$ Hz
  icases Hz with ⟨Hys0, Hys1, Hys2, Hys3⟩
  iapply (seen_bind c _ _)
  iapply (part5 m c gz) $$ [Hw1 Hw2 Hr0 Hys0]
  · isplitl [Hw1 Hw2]
    · unfold wts
      isplitl [Hw1]; · iexact Hw1
      iexact Hw2
    isplitl [Hr0]; · iexact Hr0
    iexact Hys0
  iintro ⟨Hw, Hr0, Hys0⟩
  iapply (seen_bind c _ _)
  iapply (part6 m c _ _ gz) $$ [HO Hw Hys0 Hrb0 Hc11 Hp11 Hys1]
  · isplitr; · iexact HK
    isplitl [HO]; · iexact HO
    isplitl [Hw]; · iexact Hw
    isplitl [Hys0]; · iexact Hys0
    isplitl [Hrb0]; · iexact Hrb0
    isplitl [Hc11]; · iexact Hc11
    isplitl [Hp11]; · iexact Hp11
    iexact Hys1
  iintro ⟨HO, Hw, Hc20, Hz11, Hr1, Hh1⟩
  iapply (seen_bind c _ _)
  iapply (part7 m c _ gz) $$ [HO Hw Hh1 Hrb1 Hc12 Hp12 Hys2]
  · isplitr; · iexact HK
    isplitl [HO]; · iexact HO
    isplitl [Hw]; · iexact Hw
    isplitl [Hh1]; · iexact Hh1
    isplitl [Hrb1]; · iexact Hrb1
    isplitl [Hc12]; · iexact Hc12
    isplitl [Hp12]; · iexact Hp12
    iexact Hys2
  iintro ⟨HO, Hw, Hc21, Hz12, Hr2, Hh2⟩
  iapply (seen_bind c _ _)
  iapply (part8 m c _) $$ [HO Hw Hh2 Hr2 Hrb2 Hc13 Hp13 Hxo]
  · isplitr; · iexact HK
    isplitl [HO]; · iexact HO
    isplitl [Hw]; · iexact Hw
    isplitl [Hh2]; · iexact Hh2
    isplitl [Hr2]; · iexact Hr2
    isplitl [Hrb2]; · iexact Hrb2
    isplitl [Hc13]; · iexact Hc13
    isplitl [Hp13]; · iexact Hp13
    iexact Hxo
  iintro ⟨HO, Hw, Hr2, Hc22, Hz13, Hr3⟩
  iapply (seen_bind c _ _)
  iapply (part9 m c gz gy) $$ [Hw Hr3 Hys3 Hyo]
  · isplitl [Hw]; · iexact Hw
    isplitl [Hr3]; · iexact Hr3
    isplitl [Hys3]; · iexact Hys3
    iexact Hyo
  iintro ⟨Hw, Hr3, Hys3, Hyo⟩
  ihave Hys3 := (ys_out c _) $$ Hys3
  icases Hys3 with ⟨Hys3, Hyso⟩
  iapply (seen_bind c _ _)
  iapply (part10 m c _ _ o) $$ [HO Hys3 Hrb3 Hc30 Hp30 Hc31 Hp31 Hc32 Hp32 Hout]
  · isplitr; · iexact HK
    isplitl [HO]; · iexact HO
    isplitl [Hys3]; · iexact Hys3
    isplitl [Hrb3]; · iexact Hrb3
    isplitl [Hc30]; · iexact Hc30
    isplitl [Hp30]; · iexact Hp30
    isplitl [Hc31]; · iexact Hc31
    isplitl [Hp31]; · iexact Hp31
    isplitl [Hc32]; · iexact Hc32
    isplitl [Hp32]; · iexact Hp32
    iexact Hout
  iintro ⟨HO, Hc23, Hz30, Hz31, Hz32, Hry0, Hry1, Hry2, Hout⟩
  iapply (tail m c) $$ [HO Hout Hc33 Hp33 Hyo Hc20 Hc21 Hc22 Hc23 Hp2]
  · isplitr; · iexact HK
    isplitl [HO]; · iexact HO
    isplitl [Hout]; · iexact Hout
    isplitl [Hc33]; · iexact Hc33
    isplitl [Hp33]; · iexact Hp33
    isplitl [Hyo]; · iexact Hyo
    isplitl [Hc20 Hc21 Hc22 Hc23]
    · rw [run_four (crd c 2)]
      isplitl [Hc20]; · iexact Hc20
      isplitl [Hc21]; · iexact Hc21
      isplitl [Hc22]; · iexact Hc22
      iexact Hc23
    iexact Hp2
  iintro ⟨HO, Hout, Hz33, Hry3, Hz2, Hys⟩
  imod (close_all m c) $$ [Hz0 Hz10 Hz11 Hz12 Hz13 Hz2 Hz30 Hz31 Hz32 Hz33 Hp0o Hp1o Hp2o Hp3o] with Hzs
  · isplitr; · iexact HK
    isplitl [Hz0]; · iexact Hz0
    isplitl [Hz10 Hz11 Hz12 Hz13]
    · rw [run_four (zer c 1)]
      isplitl [Hz10]; · iexact Hz10
      isplitl [Hz11]; · iexact Hz11
      isplitl [Hz12]; · iexact Hz12
      iexact Hz13
    isplitl [Hz2]; · iexact Hz2
    isplitl [Hz30 Hz31 Hz32 Hz33]
    · rw [run_four (zer c 3)]
      isplitl [Hz30]; · iexact Hz30
      isplitl [Hz31]; · iexact Hz31
      isplitl [Hz32]; · iexact Hz32
      iexact Hz33
    isplitl [Hp0o]; · iexact Hp0o
    isplitl [Hp1o]; · iexact Hp1o
    isplitl [Hp2o]; · iexact Hp2o
    iexact Hp3o
  imodintro
  iapply Hk
  isplitl [HO Hzb Hzs]
  · isplitl [HO]; · iexact HO
    isplitl [Hzb]; · iexact Hzb
    iexact Hzs
  isplitl [Ha]; · iexact Ha
  isplitl [Hout]; · iexact Hout
  isplitl [Hs]
  · iexists _
    rw [← sgR_all]
    iexact Hs
  isplitl [Hr0 Hr1 Hr2 Hr3]
  · iexists (RX m c)
    rw [← rxR_all, four_rx]
    isplitl [Hr0]; · iexact Hr0
    isplitl [Hr1]; · iexact Hr1
    isplitl [Hr2]; · iexact Hr2
    iexact Hr3
  isplitl [Hys Hyso]
  · iexists (YS m c)
    iapply (last_ys m c)
    isplitl [Hys]; · iexact Hys
    iexact Hyso
  isplitl [Hry0 Hry1 Hry2 Hry3]
  · iexists (RY m c)
    rw [← ryR_all, four_ry]
    isplitl [Hry0]; · iexact Hry0
    isplitl [Hry1]; · iexact Hry1
    isplitl [Hry2]; · iexact Hry2
    iexact Hry3
  unfold wts
  icases Hw with ⟨Hw1, Hw2⟩
  isplitl [Hw1]; · iexists _; iexact Hw1
  isplitl [Hw2]; · iexists _; iexact Hw2
  iexists _; iexact Hxb

end Cert.Exchange

end
-- ==== Proof.Ghost.lean ====
/-
How the semaphores, the invariants and the permissions are dealt to the devices before the run.
-/
module

public import proofs.«01_k».proof.Proof.Body
public import Idealize.ShloMosaic.Lib.Pipeline.Kit
public import proofs.«01_k».proof.Proof.Gen.KernelIdeal.Launch

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over numbers -/

omit [FloatOps F] in
theorem fin_run (n : ℕ) (Φ : ℕ → sProp 𝕄) : (bigSep Finset.univ fun k : Fin n => Φ k.val) = bigSep (Finset.Ico 0 n) Φ := by
  have h : Finset.Ico 0 n = (Finset.univ : Finset (Fin n)).map Fin.valEmbedding := by
    ext k; simp
  rw [h, bigSep_map]; rfl
omit [FloatOps F] in
theorem fin_four (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem option_split {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext o; cases o <;> simp
  rw [h, BI.bigSep_insert (by simp), bigSep_map]; rfl
omit [FloatOps F] in
/-- Each device's family dealt around the mesh. -/
theorem deal (e : ℕ → Dev nD ≃ Dev nD) (Φ : Dev nD → ℕ → sProp 𝕄) :
    (bigSep Finset.univ fun c : Dev nD => bigSep (Finset.Ico 0 31) (Φ c)) = bigSep Finset.univ fun c : Dev nD => bigSep (Finset.Ico 0 31) fun k => Φ (e k c) k := by
  suffices h : ∀ n, (bigSep Finset.univ fun c : Dev nD => bigSep (Finset.Ico 0 n) (Φ c)) = bigSep Finset.univ fun c : Dev nD => bigSep (Finset.Ico 0 n) fun k => Φ (e k c) k from h 31
  intro n
  induction n with
  | zero => rfl
  | succ n ih =>
    rw [bigSep_congr fun (c : Dev nD) _ => bigSep_Ico_succ_top (Nat.zero_le n) (Φ c), bigSep_sep', ih, bigSep_univ_equiv (e n) fun c => Φ c n, ← bigSep_sep']
    exact bigSep_congr fun c _ => (bigSep_Ico_succ_top (Nat.zero_le n) fun k => Φ (e k c) k).symm

/-! ## The cells and the permissions -/

abbrev osem : Fin 4 × Fin 32 → SemLoc sig := fun p => .dma (dsem p.1.val p.2.val)
theorem ownSemFacts : Pipeline.OwnSemFacts cfg0.spec osem := by decide +kernel

theorem x_eq {c c' : Dev nD} {j k j' k' : ℕ} (hj : j < 4) (hk : k < 32) (hj' : j' < 4) (hk' : k' < 32) (h : xcell c j k = xcell c' j' k') :
    c = c' ∧ j = j' ∧ k = k' := by
  have h1 : c = c' := congrArg (fun g : GSem nD τ sig => g.1.1) h
  have h2 : (SemLoc.dma (dsem j k) : SemLoc sig) = .dma (dsem j' k') := congrArg Prod.snd h
  exact ⟨h1, dsem_inj hj hk hj' hk' (SemLoc.dma.inj h2)⟩
theorem bar_eq {c c' : Dev nD} (h : barCell c = barCell c') : c = c' := congrArg (fun g : GSem nD τ sig => g.1.1) h
theorem x_ne_bar {c c' : Dev nD} {j k : ℕ} : xcell c j k ≠ barCell c' := fun h => by
  have h2 : (SemLoc.dma (dsem j k) : SemLoc sig) = .reg barS := congrArg Prod.snd h
  cases h2

theorem kcell_inj : Function.Injective kcell := by
  rintro ⟨c, _ | ⟨j, k⟩⟩ ⟨c', _ | ⟨j', k'⟩⟩ h
  · have h1 : c = c' := bar_eq h
    rw [h1]
  · exact absurd h.symm x_ne_bar
  · exact absurd h x_ne_bar
  · obtain ⟨rfl, hj, hk⟩ := x_eq j.isLt k.isLt j'.isLt k'.isLt h
    rw [Fin.ext hj, Fin.ext hk]
def allCells : Finset (GSem nD τ sig) := Finset.univ.map ⟨kcell, kcell_inj⟩

/-- The permissions as they are minted: for each device, one per signal its barrier gets and one per transfer that ends on a slot of it. -/
abbrev TI : Type := Option (Fin 4) × Fin 31
def tokOf (p : Dev nD × TI) : GSem nD τ sig × ℕ × ℕ := match p.2.1 with
  | none => (barCell p.1, 0, p.2.2.val)
  | some j => (xcell p.1 j.val p.2.2.val, 0, 0)
theorem tokOf_inj : Function.Injective tokOf := by
  rintro ⟨c, _ | j, k⟩ ⟨c', _ | j', k'⟩ h
  · have h1 : c = c' := bar_eq (congrArg Prod.fst h)
    have h2 : k.val = k'.val := congrArg (fun x : GSem nD τ sig × ℕ × ℕ => x.2.2) h
    rw [h1, Fin.ext h2]
  · exact absurd (congrArg Prod.fst h).symm x_ne_bar
  · exact absurd (congrArg Prod.fst h) x_ne_bar
  · have h1 : c = c' ∧ j.val = j'.val ∧ k.val = k'.val := x_eq j.isLt (by omega) j'.isLt (by omega) (congrArg Prod.fst h)
    rw [h1.1, Fin.ext h1.2.1, Fin.ext h1.2.2]
def allToks : Finset (GSem nD τ sig × ℕ × ℕ) := Finset.univ.map ⟨tokOf, tokOf_inj⟩

def u₀ : UU := (initOf (Pipeline.cells cfgs cellOf_inj) (Pipeline.launchToks cfgs cellOf_inj), initOf allCells allToks)

def barToks (c : Dev nD) : sProp 𝕄 := bigSep (Finset.Ico 0 31) fun k => dutyTok ER (barCell c) 0 k
def slotToks (c : Dev nD) (j : ℕ) : sProp 𝕄 := bigSep (Finset.Ico 0 31) fun k => dutyTok ER (xcell c j k) 0 0
def ownToks (c : Dev nD) : sProp 𝕄 := iprop(barToks c ∗ slotToks c 0 ∗ slotToks c 1 ∗ slotToks c 2 ∗ slotToks c 3)
def goToks (c : Dev nD) : sProp 𝕄 := iprop(bigSep (Finset.Ico 0 31) (fun k => dutyTok ER (barCell (dn c k)) 0 k) ∗ toks c)

omit [FloatOps F] in
theorem ownToks_eq (c : Dev nD) : (bigSep Finset.univ fun i : TI => (dutyTok ER (tokOf (c, i)).1 (tokOf (c, i)).2.1 (tokOf (c, i)).2.2 : sProp 𝕄)) = ownToks c := by
  rw [bigSep_univ_prod, option_split, fin_four]
  unfold ownToks barToks slotToks
  rw [← fin_run, ← fin_run, ← fin_run, ← fin_run, ← fin_run]
  rfl

omit [FloatOps F] in
theorem toks_around : (bigSep Finset.univ fun c : Dev nD => (ownToks c : sProp 𝕄)) ⊢ bigSep Finset.univ fun c : Dev nD => goToks c := by
  unfold ownToks goToks toks barToks slotToks
  rw [bigSep_sep', bigSep_sep', bigSep_sep', bigSep_sep', bigSep_sep', bigSep_sep', bigSep_sep', bigSep_sep',
    deal rot fun c k => dutyTok ER (barCell c) 0 k, deal rot fun c k => dutyTok ER (xcell c 1 k) 0 0,
    deal (fun k => (rot k).symm) fun c k => dutyTok ER (xcell c 3 k) 0 0]
  exact .rfl

/-! ## The invariants -/

def G (c : Dev nD) : sProp 𝕄 :=
  iprop((bigSep Finset.univ fun k : CI => roundState ER (rd m) (kcell (c, k)) 0)
    ∗ ((bigSep Finset.univ fun k : CI => atPos ER (kcell (c, k)) 0 ∅ 0) ∗ bigSep Finset.univ fun k : CI => reached ER (kcell (c, k)) 0) ∗ ownToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => ownToks_eq c
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  rw [bigSep_univ_prod, fin_four, ← fin_run, ← fin_run, ← fin_run, ← fin_run]
  rfl

theorem sems0_eq (c : Dev nD) : iprop(Pipeline.ownSems0 (Ix := Unit) (Name := ℕ) (U := UU) (Lvl := ℕ) (Val := Elt F) (τ := τ) osem c ∗ unscopedSems0 c)
    ⊢ (bigSep Finset.univ fun k : CI => semVal (kcell (c, k)) 0 : sProp 𝕄) := by
  rw [unscopedSems0_eq, option_split]
  unfold Pipeline.ownSems0
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ ((bigSep Finset.univ fun k : CI => atPos ER (kcell (c, k)) 0 ∅ 0) ∗ bigSep Finset.univ fun k : CI => reached ER (kcell (c, k)) 0) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device is told, apart from the levels. -/
def told : sProp 𝕄 :=
  iprop((bigSep Finset.univ fun p : Dev nD × CI => iprop(∃ κ : ℕ, cellInv ER (rd m) κ (kcell p)))
    ∗ (bigSep Finset.univ fun p : Dev nD × CI => reached ER (kcell p) 0))
instance told_persistent : BI.Persistent (told m) := by unfold told; infer_instance

theorem know_intro : iprop(told m ∗ levAts L lv) ⊢ know m := by
  unfold told know
  iintro ⟨⟨H1, H2⟩, H3⟩
  isplitl [H1]; · iexact H1
  isplitl [H2]; · iexact H2
  iexact H3

/-- What one device holds after the dealing. -/
def G' (c : Dev nD) : sProp 𝕄 := iprop(told m ∗ (atPos ER (barCell c) 0 ∅ 0 ∗ marks c) ∗ goToks c)

omit [FloatOps F] in
theorem marks_eq (c : Dev nD) : (bigSep Finset.univ fun k : CI => (atPos ER (kcell (c, k)) 0 ∅ 0 : sProp 𝕄)) = iprop(atPos ER (barCell c) 0 ∅ 0 ∗ marks c) := by
  rw [option_split, bigSep_univ_prod, fin_four]
  unfold marks
  rw [← fin_run, ← fin_run, ← fin_run, ← fin_run]
  rfl

theorem regroup :
    (bigSep Finset.univ fun c : Dev nD => iprop((bigSep Finset.univ fun k : CI => iprop(∃ κ : ℕ, cellInv ER (rd m) κ (kcell (c, k))))
          ∗ ((bigSep Finset.univ fun k : CI => atPos ER (kcell (c, k)) 0 ∅ 0) ∗ bigSep Finset.univ fun k : CI => reached ER (kcell (c, k)) 0) ∗ ownToks c) : sProp 𝕄)
      ⊢ bigSep Finset.univ (G' m) := by
  rw [bigSep_sep', bigSep_sep', bigSep_sep', ← bigSep_univ_prod (fun p : Dev nD × CI => iprop(∃ κ : ℕ, cellInv ER (rd m) κ (kcell p))),
    ← bigSep_univ_prod (fun p : Dev nD × CI => (reached ER (kcell p) 0 : sProp 𝕄)), bigSep_congr fun (c : Dev nD) _ => marks_eq c]
  unfold G'
  rw [bigSep_sep' Finset.univ (fun _ => told m), bigSep_sep' Finset.univ (fun c => iprop(atPos ER (barCell c) 0 ∅ 0 ∗ marks c))]
  iintro ⟨#HI, ⟨Hat, #HR⟩, Htok⟩
  ihave Htk := (toks_around (F := F)) $$ Htok
  isplitr
  · iapply (BI.bigSep_of_persistent Finset.univ (told m))
    unfold told
    isplitl; · iexact HI
    iexact HR
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device is given for what the others owe it -/

abbrev O₀ (c : Dev nD) : CellTallies nD τ sig Unit := owed c 0 0 0

theorem sum_one {n v : ℕ} {P : Dev nD → ℕ → Prop} [∀ d k, Decidable (P d k)] (k₀ : ℕ) (hk₀ : k₀ < n) (d₀ : Dev nD) (h : ∀ d k, k < n → (P d k ↔ k = k₀ ∧ d = d₀)) :
    (∑ d : Dev nD, ∑ k ∈ Finset.Ico 0 n, if P d k then v else 0) = v := by
  rw [Finset.sum_eq_single d₀ (fun d _ hd => Finset.sum_eq_zero fun k hk => if_neg fun hp => hd ((h d k (Finset.mem_Ico.mp hk).2).mp hp).2) (fun hn => absurd (Finset.mem_univ _) hn),
    Finset.sum_eq_single k₀ (fun k hk hne => if_neg fun hp => hne ((h d₀ k (Finset.mem_Ico.mp hk).2).mp hp).1) (fun hn => absurd (Finset.mem_Ico.mpr ⟨Nat.zero_le _, hk₀⟩) hn),
    if_pos ((h d₀ k₀ hk₀).mpr ⟨rfl, rfl⟩)]
theorem sum_none {n v : ℕ} {P : Dev nD → ℕ → Prop} [∀ d k, Decidable (P d k)] (h : ∀ d k, k < n → ¬ P d k) :
    (∑ d : Dev nD, ∑ k ∈ Finset.Ico 0 n, if P d k then v else 0) = 0 :=
  Finset.sum_eq_zero fun d _ => Finset.sum_eq_zero fun k hk => if_neg (h d k (Finset.mem_Ico.mp hk).2)

theorem launch_out (c : Dev nD) {k : ℕ} (hk : k < 31) :
    tallyOn (xcell c 1 k) (launchCredit (Pipeline.owing O₀) 0 (xcell c 1 k)) = (tallyAt (xcell c 1 k) () N : CellTallies nD τ sig Unit) := by
  unfold tallyAt; refine congrArg _ (Finsupp.ext fun u => ?_); cases u
  rw [Pipeline.launchCredit_owing, Finsupp.single_eq_same, Finset.sum_congr rfl fun d _ => owed_apply d 0 0 0 _, Finset.sum_add_distrib, Finset.sum_add_distrib,
    sum_none fun d k' hk' h => absurd (x_eq (by decide) (by omega) (by decide) (by omega) h).2.1 (by decide),
    sum_one k hk (up c k) fun d k' hk' => ⟨fun h => ?_, fun h => ?_⟩, sum_none fun d k' hk' h => x_ne_bar h, Nat.zero_add, Nat.add_zero]
  · obtain ⟨rfl, -, rfl⟩ := x_eq (by decide) (by omega) (by decide) (by omega) h
    exact ⟨rfl, (up_dn d k).symm⟩
  · obtain ⟨rfl, rfl⟩ := h; rw [dn_up]
theorem launch_ret (c : Dev nD) {k : ℕ} (hk : k < 31) :
    tallyOn (xcell c 3 k) (launchCredit (Pipeline.owing O₀) 0 (xcell c 3 k)) = (tallyAt (xcell c 3 k) () N : CellTallies nD τ sig Unit) := by
  unfold tallyAt; refine congrArg _ (Finsupp.ext fun u => ?_); cases u
  rw [Pipeline.launchCredit_owing, Finsupp.single_eq_same, Finset.sum_congr rfl fun d _ => owed_apply d 0 0 0 _, Finset.sum_add_distrib, Finset.sum_add_distrib,
    sum_one k hk (dn c k) fun d k' hk' => ⟨fun h => ?_, fun h => ?_⟩,
    sum_none fun d k' hk' h => absurd (x_eq (by decide) (by omega) (by decide) (by omega) h).2.1 (by decide), sum_none fun d k' hk' h => x_ne_bar h, Nat.add_zero]
  · obtain ⟨rfl, -, rfl⟩ := x_eq (by decide) (by omega) (by decide) (by omega) h
    exact ⟨rfl, (dn_up d k).symm⟩
  · obtain ⟨rfl, rfl⟩ := h; rw [up_dn]
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_apply d 0 0 0 _, Finset.sum_add_distrib, Finset.sum_add_distrib,
    sum_none fun d k' hk' h => x_ne_bar h.symm, sum_none fun d k' hk' h => x_ne_bar h.symm, Nat.zero_add, Finset.sum_comm]
  rw [Finset.sum_congr rfl fun k hk => show (∑ d : Dev nD, if barCell c = barCell (dn d k) then 1 else 0) = 1 from by
    rw [Finset.sum_eq_single (up c k) (fun d _ hd => if_neg fun h => hd (by rw [bar_eq h, up_dn])) (fun hn => absurd (Finset.mem_univ _) hn), if_pos (by rw [dn_up])]]
  rfl

theorem creds (c : Dev nD) :
    (Pipeline.launchCred O₀ c : sProp 𝕄) ⊢ iprop(cred (tallyAt (barCell c) () 31) ∗ bigSep (Finset.Ico 0 31) (crd c 1) ∗ bigSep (Finset.Ico 0 31) (crd c 3)) := by
  have hinj : ∀ j, j < 4 → Set.InjOn (fun k : ℕ => (SemLoc.dma (dsem j k) : SemLoc sig)) (Finset.Ico 0 31 : Finset ℕ) := fun j hj k hk k' hk' h => by
    rw [Finset.mem_coe, Finset.mem_Ico] at hk hk'
    exact (dsem_inj hj (by omega) hj (by omega) (SemLoc.dma.inj h)).2
  unfold Pipeline.launchCred
  have hd : Disjoint ((Finset.Ico 0 31).image fun k => (SemLoc.dma (dsem 1 k) : SemLoc sig)) ((Finset.Ico 0 31).image fun k => (SemLoc.dma (dsem 3 k) : SemLoc sig)) := by
    refine Finset.disjoint_left.mpr fun x hx hx' => ?_
    obtain ⟨k, hk, rfl⟩ := Finset.mem_image.mp hx
    obtain ⟨k', hk', h⟩ := Finset.mem_image.mp hx'
    rw [Finset.mem_Ico] at hk hk'
    exact absurd (dsem_inj (by decide) (by omega) (by decide) (by omega) (SemLoc.dma.inj h)).1 (by decide)
  have hb : (SemLoc.reg barS : SemLoc sig) ∉ ((Finset.Ico 0 31).image fun k => (SemLoc.dma (dsem 1 k) : SemLoc sig)) ∪ ((Finset.Ico 0 31).image fun k => (SemLoc.dma (dsem 3 k) : SemLoc sig)) := by
    rw [Finset.mem_union, Finset.mem_image, Finset.mem_image]
    rintro (⟨k, -, h⟩ | ⟨k, -, h⟩) <;> cases h
  refine (bigSep_subset (Finset.subset_univ (insert (SemLoc.reg barS : SemLoc sig) (((Finset.Ico 0 31).image fun k => (SemLoc.dma (dsem 1 k) : SemLoc sig)) ∪ ((Finset.Ico 0 31).image fun k => (SemLoc.dma (dsem 3 k) : SemLoc sig)))))).trans ?_
  rw [BI.bigSep_insert hb, BI.bigSep_union hd, bigSep_image_of_injOn (hinj 1 (by decide)), bigSep_image_of_injOn (hinj 3 (by decide)), launch_bar,
    bigSep_congr fun k hk => show _ = crd c 1 k from congrArg cred (launch_out c (Finset.mem_Ico.mp hk).2),
    bigSep_congr fun k hk => show _ = crd c 3 k from congrArg cred (launch_ret c (Finset.mem_Ico.mp hk).2)]
  exact BI.Entails.refl _

end Cert.Exchange

end
-- ==== Proof.Launch.lean ====
/-
The launch: the run of the whole program, and what its memory holds afterwards.
-/
module

public import proofs.«01_k».proof.Proof.Ghost
public import Idealize.ShloMosaic.Lib.Pipeline.CollectiveSegs
public import Idealize.ShloMosaic.Lib.Quiescent
public import Idealize.ShloMosaic.Adequacy
public import Idealize.ShloMosaic.Init

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What a device starts with, apart from its buffers and its account. -/
def start (c : Dev nD) : sProp 𝕄 := iprop(know m ∗ atPos ER (barCell c) 0 ∅ 0 ∗ marks c ∗ goToks c
  ∗ cred (tallyAt (barCell c) () 31) ∗ bigSep (Finset.Ico 0 31) (crd c 1) ∗ bigSep (Finset.Ico 0 31) (crd c 3))

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => As m c
    | ⟨2, _⟩ => Wa m c
    | ⟨3, _⟩ => Wb m c
    | ⟨4, _⟩ => out3 m c
  Φ t := match t with
    | ⟨0, _⟩ => iprop(start m c ∗ scratch c)
    | ⟨_ + 1, _⟩ => iprop(semVal (barCell c) 0 ∗ zeros c ∗ scratch c)
  q _ := fullShare
  owed t := match t with
    | ⟨0, _⟩ => O₀ c
    | ⟨_ + 1, _⟩ => 0

abbrev tk : Fin cfg0.N := t0_0

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop((start m c ∗ scratch c) ∗ (dats m 0 c).owesAt () tk.castSucc
    ∗ (∃ d, stg c cc0_stg0_0 ((dats m 0 c).before (0 : Fin 5) tk d)) ∗ (∃ d, stg c cc0_stg1_0 ((dats m 0 c).before (1 : Fin 5) tk d))
    ∗ (∃ d, stg c cc0_stg2_0 ((dats m 0 c).before (2 : Fin 5) tk d)) ∗ (∃ d, stg c cc0_stg3_0 ((dats m 0 c).before (3 : Fin 5) tk d))
    ∗ (∃ d, stg c cc0_stg4_0 ((dats m 0 c).before (4 : Fin 5) tk d)))
def bodyPost (c : Dev nD) : sProp 𝕄 :=
  iprop((semVal (barCell c) 0 ∗ zeros c ∗ scratch c) ∗ (dats m 0 c).owesAt () tk.succ
    ∗ stg c cc0_stg0_0 (X m c) ∗ stg c cc0_stg1_0 (As m c) ∗ stg c cc0_stg2_0 (Wa m c) ∗ stg c cc0_stg3_0 (Wb m c) ∗ stg c cc0_stg4_0 (out3 m c))

theorem fetches : ∀ w : Fin 5, w ≠ 4 → (cfg0.win w).fetch tk = true := by decide +kernel

theorem before_0 (c : Dev nD) (d) : (dats m 0 c).before (0 : Fin 5) tk d = X m c := by unfold Dat.before; rw [if_pos (fetches 0 (by decide))]; rfl
theorem before_1 (c : Dev nD) (d) : (dats m 0 c).before (1 : Fin 5) tk d = As m c := by unfold Dat.before; rw [if_pos (fetches 1 (by decide))]; rfl
theorem before_2 (c : Dev nD) (d) : (dats m 0 c).before (2 : Fin 5) tk d = Wa m c := by unfold Dat.before; rw [if_pos (fetches 2 (by decide))]; rfl
theorem before_3 (c : Dev nD) (d) : (dats m 0 c).before (3 : Fin 5) tk d = Wb m c := by unfold Dat.before; rw [if_pos (fetches 3 (by decide))]; rfl

theorem sound_body (c : Dev nD) : bodyPre m c ⊢ seen c (withArgs (cc0_body (F := F))) (fun _ => bodyPost m c) := by
  unfold bodyPre start goToks
  iintro ⟨⟨⟨#HK, Hat, Hm, ⟨Hbt, Ht⟩, Hcb, Hc1, Hc3⟩, Hs⟩, Ho, ⟨%d0, %g0, %h0, H0⟩, ⟨%d1, %g1, %h1, H1⟩, ⟨%d2, %g2, %h2, H2⟩, ⟨%d3, %g3, %h3, H3⟩, ⟨%d4, %g4, %h4, H4⟩⟩
  rw [before_0] at h0
  rw [before_1] at h1
  rw [before_2] at h2
  rw [before_3] at h3
  subst h0 h1 h2 h3
  unfold Dat.owesAt Pipeline.owesWithin
  icases Ho with ⟨%W, %hW, HO⟩
  iapply (body_run m c) $$ [Hat Hm Hbt Ht Hcb Hc1 Hc3 Hs HO H0 H1 H2 H3 H4]
  · isplitr; · iexact HK
    isplitl [Hat Hm Hbt Ht Hcb Hc1 Hc3 HO]
    · unfold begins
      isplitl [HO]; · unfold acct; iexists W; iexact HO
      isplitl [Hat]; · iexact Hat
      isplitl [Hm]; · iexact Hm
      isplitl [Hbt]; · iexact Hbt
      isplitl [Ht]; · iexact Ht
      isplitl [Hcb]; · iexact Hcb
      isplitl [Hc1]; · iexact Hc1
      iexact Hc3
    isplitl [H0 H1 H2 H3]
    · unfold args xP asP waP wbP
      isplitl [H0]; · iexact H0
      isplitl [H1]; · iexact H1
      isplitl [H2]; · iexact H2
      iexact H3
    isplitl [H4]
    · iexists g4; unfold outP; iexact H4
    iexact Hs
  iintro ⟨He, Ha, Hout, Hs⟩
  unfold ends args xP asP waP wbP outP acct bodyPost Dat.owesAt Pipeline.owesWithin
  icases He with ⟨⟨%W', HO⟩, Hb, Hz⟩
  icases Ha with ⟨H0, H1, H2, H3⟩
  isplitl [Hb Hz Hs]
  · isplitl [Hb]; · iexact Hb
    isplitl [Hz] <;> iassumption
  isplitl [HO]
  · iexists W'
    isplitr; · ipureintro; exact fun _ _ => Or.inl trivial
    rw [show (dats m 0 c).owed tk.succ = owed c 31 31 31 from (owed_none c).symm]
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Hout

theorem body_obligation (c : Dev nD) : BodyObligation (dats (F := F) m 0 c) (defs₀ (F := F)) 𝒱₀ () Set.univ := fun t => by
  rw [fin_N0 t]
  rw [show (bigSep Finset.univ : (Fin cfg0.W → sProp 𝕄) → sProp 𝕄) = fun Φ => iprop(Φ (0 : Fin 5) ∗ Φ (1 : Fin 5) ∗ Φ (2 : Fin 5) ∗ Φ (3 : Fin 5) ∗ Φ (4 : Fin 5)) from funext fun Φ => bigSep_W0 Φ]
  simp only [owns_whole_eq]
  exact sound_body m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, #Hlev, Hcr, -, #HT, ⟨Hat, Hm⟩, Hg⟩
  ihave Hc := (creds (F := F) c) $$ Hcr
  imodintro
  isplitl
  · isplitr
    · iapply (know_intro m)
      isplitr; · iexact HT
      iexact Hlev
    isplitl [Hat]; · iexact Hat
    isplitl [Hm]; · iexact Hm
    isplitl [Hg]; · iexact Hg
    iexact Hc
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch sgW rxW ysW ryW w1P w2P xbP
  iexact Hr

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(semVal (barCell c) 0 ∗ zeros c ∗ scratch c) from rfl, scopedRest0_eq, ownSems0_eq, unscopedSems0_eq]
  unfold scratch sgW rxW ysW ryW w1P w2P xbP
  exact BI.Entails.refl _

theorem stage_low (w : Fin cfg0.W) (s : Fin (cfg0.win w).nbuf) : lvl (.dma ((cfg0.win w).sem s)) = 0 := by
  revert w s; decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_below c _ 0 (stage_low w s).le (fun _ => by decide) (fun _ => by decide) (fun _ => by decide)
    · show (levAts L lv : sProp 𝕄) ⊢ MayWait (c : Thread nD τ) _ () 0
      rw [← owed_none c]
      exact mayWait_below c _ 0 (stage_low w s).le (fun _ => by decide) (fun _ => by decide) (fun _ => by decide)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem final_arg (c : Dev nD) (w : Fin 5) (hw : (cfg0.win w).isOut = false) : finalA m c w = m ((cfg0.win w).arr.view.loc (c : Thread nD τ)) :=
  (dats (F := F) m 0 c).arrAt_in w hw _

/-- The result array, read as the one block of its window, is what the device's body leaves. -/
theorem final_out (c : Dev nD) : (win0_4.blk (0 : Fin 1)).view.read (Elt F) (finalA m c (4 : Fin 5)) = out3 m c := by
  unfold finalA
  rw [show cfg0.N = ((0 : Fin 1) : Fin cfg0.N).val + 1 from rfl, (dats m 0 c).arrAt_succ (4 : Fin 5) (0 : Fin 1)]
  rw [show (cfg0.win (4 : Fin 5)).flush (0 : Fin 1) = true from by decide, if_pos rfl]
  exact View.read_write_univ _ _

end Cert.Exchange

end
-- ==== Proof.Result.lean ====
/-
What the run leaves in memory, read as whole arrays: the result array holds `out3`, the arguments are unchanged.
-/
module

public import proofs.«01_k».proof.Proof.Launch

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The one block of a window over a two-axis array is the array. -/
theorem whole_4 (f : main_v1.ty.Contents (Elt F)) : (win0_4.blk (0 : Fin 1)).view.read (Elt F) f = f := by
  funext y
  have : (win0_4.blk (0 : Fin 1)).view.emb y = y := by
    funext a
    apply Fin.ext
    exact Pipeline.Window.rect_emb_val_of_index_zero win0_4 (0 : Fin 1) a rfl y
  exact congrArg f this

theorem whole_0 (f : main_arg0.ty.Contents (Elt F)) : (win0_0.blk (0 : Fin 1)).view.read (Elt F) f = f := by
  funext y
  have : (win0_0.blk (0 : Fin 1)).view.emb y = y := by
    funext a
    apply Fin.ext
    exact Pipeline.Window.rect_emb_val_of_index_zero win0_0 (0 : Fin 1) a rfl y
  exact congrArg f this

theorem whole_1 (f : main_arg1.ty.Contents (Elt F)) : (win0_1.blk (0 : Fin 1)).view.read (Elt F) f = f := by
  funext y
  have : (win0_1.blk (0 : Fin 1)).view.emb y = y := by
    funext a
    apply Fin.ext
    exact Pipeline.Window.rect_emb_val_of_index_zero win0_1 (0 : Fin 1) a rfl y
  exact congrArg f this

theorem whole_2 (f : main_arg2.ty.Contents (Elt F)) : (win0_2.blk (0 : Fin 1)).view.read (Elt F) f = f := by
  funext y
  have : (win0_2.blk (0 : Fin 1)).view.emb y = y := by
    funext a
    apply Fin.ext
    exact Pipeline.Window.rect_emb_val_of_index_zero win0_2 (0 : Fin 1) a rfl y
  exact congrArg f this

theorem whole_3 (f : main_arg3.ty.Contents (Elt F)) : (win0_3.blk (0 : Fin 1)).view.read (Elt F) f = f := by
  funext y
  have : (win0_3.blk (0 : Fin 1)).view.emb y = y := by
    funext a
    apply Fin.ext
    exact Pipeline.Window.rect_emb_val_of_index_zero win0_3 (0 : Fin 1) a rfl y
  exact congrArg f this

/-- What a final state holds: the arguments as they were, the result array what the devices computed. -/
theorem run_value : θ_run defs (onTc (τ := τ) (main (F := F))) (s₀ m ρ) (fun r =>
    (∀ c : Dev nD, r.2.mem ((c.tc : Thread nD τ).loc main_v1) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨(h.1 c (4 : Fin 5)).trans ((whole_4 _).symm.trans (final_out m c)),
      (h.1 c (0 : Fin 5)).trans (final_arg m c 0 rfl), (h.1 c (1 : Fin 5)).trans (final_arg m c 1 rfl),
      (h.1 c (2 : Fin 5)).trans (final_arg m c 2 rfl), (h.1 c (3 : Fin 5)).trans (final_arg m c 3 rfl)⟩, h.2⟩) (run_main m ρ)

/-- The arguments alone. -/
theorem run_frame : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => (h.1 c).2, h.2⟩) (run_value m ρ)

end Cert.Exchange

end
-- ==== Proof.Same.lean ====
/- The kernel as printed and the kernel read ideally have one text: at the same float values their body tables are equal. -/
module
public import proofs.«01_k».proof.Defs
public import proofs.«01_k».proof.Proof.Gen.Kernel
public import proofs.«01_k».proof.Proof.Gen.KernelIdeal
@[expose] public section
noncomputable section
namespace Cert.Exchange
open Idealize.ShloMosaic Idealize.SL.Sem
set_option maxRecDepth 16384
theorem body_eq : Cert.Kernel.cc0_body (F := Bits) = Cert.KernelIdeal.cc0_body (F := Bits) := rfl

/-- The tables of the kernels' bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- The whole tables, with the pipeline's own labels. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq
end Cert.Exchange
end
-- ==== Proof.Rank.lean ====
/-
The words and the indicators of the routing, read as numbers.
-/
module

public import proofs.«01_k».proof.Proof.Contents
public import Idealize.ShloMosaic.Lib.Pointwise

@[expose] public section

set_option maxRecDepth 16384

noncomputable section

namespace Cert.Exchange.Value

open Cert.KernelIdeal Cert.KernelIdeal.Gen
open Idealize.ShloMosaic Idealize.ShloMosaic.TcCoe

/-- A condition widened to a word and converted is one where it holds and zero elsewhere. -/
theorem bit_value (b : Bool) : (FloatOps.sitofp (F := Ideal) .f32 (BitVec.setWidth 32 (BitVec.ofBool b)) : EReal) = if b = true then 1 else 0 := by
  show ((((BitVec.setWidth 32 (BitVec.ofBool b)).toInt : ℤ) : ℝ) : EReal) = _
  cases b
  · have : (BitVec.setWidth 32 (BitVec.ofBool false)).toInt = 0 := by decide
    rw [this]; simp
  · have : (BitVec.setWidth 32 (BitVec.ofBool true)).toInt = 1 := by decide
    rw [this]; simp

theorem bit_eq (a b : BitVec 32) : (FloatOps.sitofp (F := Ideal) .f32 (BitVec.setWidth 32 (IntOp.cmpi .eq a b)) : EReal) = if a = b then 1 else 0 := by
  have h : IntOp.cmpi .eq a b = BitVec.ofBool (decide (a = b)) := by
    show BitVec.ofBool (a == b) = _; congr 1
  rw [h, bit_value]; simp

theorem toInt_small {n : ℕ} (h : n < 2 ^ 31) : (BitVec.ofNat 32 n).toInt = (n : ℤ) := by
  rw [BitVec.toInt_eq_toNat_of_lt] <;> simp only [BitVec.toNat_ofNat] <;> omega

theorem word_value {n : ℕ} (h : n < 2 ^ 31) : (FloatOps.sitofp (F := Ideal) .f32 (BitVec.ofNat 32 n) : EReal) = ((n : ℝ) : EReal) := by
  show ((((BitVec.ofNat 32 n).toInt : ℤ) : ℝ) : EReal) = _
  rw [toInt_small h]; simp

theorem bit_ge {a b : ℕ} (ha : a < 2 ^ 31) (hb : b < 2 ^ 31) :
    (FloatOps.sitofp (F := Ideal) .f32 (BitVec.setWidth 32 (IntOp.cmpi .sge (BitVec.ofNat 32 a) (BitVec.ofNat 32 b))) : EReal)
      = if b ≤ a then 1 else 0 := by
  have h : IntOp.cmpi .sge (BitVec.ofNat 32 a) (BitVec.ofNat 32 b) = BitVec.ofBool (decide (b ≤ a)) := by
    unfold IntOp.cmpi
    simp only [BitVec.sle, toInt_small ha, toInt_small hb]
    congr 1; simp
  rw [h, bit_value]; simp

/-- A sum of indicators counts. -/
theorem sum_bits {ι : Type} [Fintype ι] (p : ι → Prop) [DecidablePred p] :
    ∑ x, (if p x then (1 : EReal) else 0) = (((Finset.univ.filter p).card : ℝ) : EReal) := by
  rw [Finset.sum_boole]; simp

theorem bits_mul (p q : Prop) [Decidable p] [Decidable q] :
    (if p then (1 : EReal) else 0) * (if q then 1 else 0) = if p ∧ q then 1 else 0 := by
  by_cases hp : p <;> by_cases hq : q <;> simp [hp, hq]

/-- A word names a small number where it reads as it. -/
theorem word_iff {w : BitVec 32} {n : ℕ} (h : n < 2 ^ 32) : w = BitVec.ofNat 32 n ↔ w.toNat = n := by
  constructor
  · rintro rfl; simp only [BitVec.toNat_ofNat]; omega
  · intro e; apply BitVec.eq_of_toNat_eq; simp only [BitVec.toNat_ofNat]; omega

/-! ## The rank of a token among its expert's -/

/-- How many earlier tokens share the expert of `t`. -/
def pos (A : IVec S512 32) (t : Fin 512) : ℕ := (Finset.univ.filter fun s : Fin 512 => s < t ∧ A (ix1 s) = A (ix1 t)).card
/-- The rank the program forms: of no account where the token names no expert. -/
def rk (A : IVec S512 32) (t : Fin 512) : ℕ := if (A (ix1 t)).toNat < 64 then pos A t else 0

/-- The mask has a one where the token names the expert. -/
theorem mask_value (A : IVec S512 32) (t : Fin 512) (e : Fin 64) :
    (k0_pay8 (F := Ideal) A (ix2 t e) : EReal) = if A (ix1 t) = BitVec.ofNat 32 e.val then 1 else 0 := by
  pointwise [k0_pay8, k0_pay6]
  exact bit_eq _ _

/-- How many tokens up to and including `t` name expert `e`. -/
theorem upto_value (A : IVec S512 32) (t : Fin 512) (e : Fin 64) :
    (k0_pay9 (F := Ideal) A (ix2 t e) : EReal)
      = (((Finset.univ.filter fun s : Fin 512 => s.val ≤ t.val ∧ A (ix1 s) = BitVec.ofNat 32 e.val).card : ℝ) : EReal) := by
  pointwise [k0_pay9]
  rw [← sum_bits]
  refine Finset.sum_congr rfl fun s _ => ?_
  rw [bit_ge (by omega) (by omega), mask_value, bits_mul]

theorem upto_eq (A : IVec S512 32) (t : Fin 512) :
    (Finset.univ.filter fun s : Fin 512 => s.val ≤ t.val ∧ A (ix1 s) = A (ix1 t)).card = pos A t + 1 := by
  have h : (Finset.univ.filter fun s : Fin 512 => s.val ≤ t.val ∧ A (ix1 s) = A (ix1 t))
      = insert t (Finset.univ.filter fun s : Fin 512 => s < t ∧ A (ix1 s) = A (ix1 t)) := by
    ext s
    simp only [Finset.mem_filter, Finset.mem_univ, true_and, Finset.mem_insert]
    constructor
    · rintro ⟨h1, h2⟩
      by_cases e : s = t
      · exact .inl e
      · exact .inr ⟨lt_of_le_of_ne h1 e, h2⟩
    · rintro (rfl | ⟨h1, h2⟩)
      · exact ⟨le_refl _, rfl⟩
      · exact ⟨le_of_lt h1, h2⟩
  rw [h, Finset.card_insert_of_notMem (by simp)]
  rfl

/-- One expert's term of the rank's sum: the rank at the expert the token names, zero at the others. -/
theorem rank_term (A : IVec S512 32) (t : Fin 512) (e : Fin 64) :
    ((k0_pay9 (F := Ideal) A (ix2 t e) : EReal) - 1) * (k0_pay8 (F := Ideal) A (ix2 t e) : EReal)
      = if (A (ix1 t)).toNat = e.val then ((pos A t : ℝ) : EReal) else 0 := by
  rw [mask_value, upto_value]
  by_cases h : A (ix1 t) = BitVec.ofNat 32 e.val
  · rw [if_pos h, if_pos ((word_iff (by omega)).mp h), ← h, upto_eq, mul_one]
    rw [show (1 : EReal) = ((1 : ℝ) : EReal) from rfl, ← EReal.coe_sub]
    congr 1; push_cast; ring
  · rw [if_neg h, if_neg (fun e' => h ((word_iff (by omega)).mpr e')), mul_zero]

/-- The rank column holds the rank of each token. -/
theorem rank_value (A : IVec S512 32) (t : Fin 512) :
    (k0_pay10 (F := Ideal) (k0_pay8 A) (k0_pay9 A) (ix2 t 0) : EReal) = ((rk A t : ℝ) : EReal) := by
  pointwise [k0_pay10]
  refine (Finset.sum_congr rfl fun e _ => rank_term A t e).trans ?_
  unfold rk
  by_cases h : (A (ix1 t)).toNat < 64
  · rw [if_pos h, Finset.sum_eq_single (⟨(A (ix1 t)).toNat, h⟩ : Fin 64)]
    · exact if_pos rfl
    · intro b _ hb; exact if_neg fun e => hb (Fin.ext e.symm)
    · intro hn; exact absurd (Finset.mem_univ _) hn
  · rw [if_neg h, Finset.sum_eq_zero]
    · simp
    · intro e _; exact if_neg (by omega)

/-- Two tokens of one expert have different ranks. -/
theorem pos_lt (A : IVec S512 32) {s t : Fin 512} (h : s < t) (e : A (ix1 s) = A (ix1 t)) : pos A s < pos A t := by
  refine Finset.card_lt_card ?_
  rw [Finset.ssubset_iff_of_subset]
  · refine ⟨s, ?_, ?_⟩
    · simp only [Finset.mem_filter, Finset.mem_univ, true_and]; exact ⟨h, e⟩
    · simp
  · intro x hx
    simp only [Finset.mem_filter, Finset.mem_univ, true_and] at hx ⊢
    exact ⟨hx.1.trans h, hx.2.trans e⟩

/-- A token is determined by its expert and its rank. -/
theorem pos_inj (A : IVec S512 32) {s t : Fin 512} (e : A (ix1 s) = A (ix1 t)) (h : pos A s = pos A t) : s = t := by
  rcases lt_trichotomy s t with l | l | l
  · exact absurd (pos_lt A l e) (by omega)
  · exact l
  · exact absurd (pos_lt A l e.symm) (by omega)

/-- A token's rank is below the number of its expert's tokens. -/
theorem pos_lt_card (A : IVec S512 32) (t : Fin 512) :
    pos A t < (Finset.univ.filter fun s : Fin 512 => A (ix1 s) = A (ix1 t)).card := by
  refine Finset.card_lt_card ?_
  rw [Finset.ssubset_iff_of_subset]
  · exact ⟨t, by simp, by simp⟩
  · intro x hx
    simp only [Finset.mem_filter, Finset.mem_univ, true_and] at hx ⊢
    exact hx.2

end Cert.Exchange.Value

end
-- ==== Proof.Columns.lean ====
/-
The one-hot matrices that place tokens in slots and bring their results back.
-/
module

public import proofs.«01_k».proof.Proof.Rank

@[expose] public section

set_option maxRecDepth 16384

noncomputable section

namespace Cert.Exchange.Value

open Cert.KernelIdeal Cert.KernelIdeal.Gen
open Idealize.ShloMosaic Idealize.ShloMosaic.TcCoe

/-! ## The words of a column -/

/-- The expert a column of the placing matrix is for. -/
def colExp (c q : ℕ) : ℕ := 2 * ((c + 1 + q / 40) % 32) + q % 40 / 20

theorem colExp_lt (c q : ℕ) : colExp c q < 64 := by unfold colExp; omega

theorem myId_value (c : Dev nD) : myId c = BitVec.ofNat 32 c.val := by
  revert c; decide +kernel

theorem col_rem (q : Fin 1280) : IntOp.remsi ArithUnit.vector (BitVec.ofNat 32 q.val) 40#32 = BitVec.ofNat 32 (q.val % 40) := by
  revert q; decide +kernel

theorem col_rank (r : Fin 40) : IntOp.remsi ArithUnit.vector (BitVec.ofNat 32 r.val) 20#32 = BitVec.ofNat 32 (r.val % 20) := by
  revert r; decide +kernel

theorem col_div (q : Fin 1280) :
    Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 40#32 0#32))
            (Scalar.extui (Scalar.cmpi CmpIPredicate.slt 40#32 0#32))))
        (IntOp.cmpi CmpIPredicate.ne (IntOp.remsi ArithUnit.vector (BitVec.ofNat 32 q.val) 40#32) 0#32))
      (IntOp.subi (IntOp.divsi ArithUnit.vector (BitVec.ofNat 32 q.val) 40#32) 1#32)
      (IntOp.divsi ArithUnit.vector (BitVec.ofNat 32 q.val) 40#32) = BitVec.ofNat 32 (q.val / 40) := by
  revert q; decide +kernel

theorem col_dev (c k : Fin 32) :
    IntOp.remsi ArithUnit.vector (IntOp.addi (Scalar.addi (BitVec.ofNat 32 c.val) 1#32) (BitVec.ofNat 32 k.val)) 32#32
      = BitVec.ofNat 32 ((c.val + 1 + k.val) % 32) := by
  revert c k; decide +kernel

theorem col_word (a : Fin 32) (r : Fin 40) :
    IntOp.addi (IntOp.muli (2#32) (BitVec.ofNat 32 a.val)) (BitVec.setWidth 32 (IntOp.cmpi CmpIPredicate.sge (BitVec.ofNat 32 r.val) 20#32))
      = BitVec.ofNat 32 (2 * a.val + r.val / 20) := by
  revert a r; decide +kernel

theorem rem_value (q : Fin 1280) : k0_pay11 (ix2 0 q) = BitVec.ofNat 32 (q.val % 40) := by
  pointwise [k0_pay11]
  exact col_rem q

theorem cap_value (q : Fin 1280) : k0_pay13 (ix2 0 q) = 20#32 := by
  pointwise [k0_pay13]

/-- The word of a column is the expert it is for. -/
theorem colExp_value (c : Dev nD) (q : Fin 1280) : k0_pay12 (myId c) (ix2 0 q) = BitVec.ofNat 32 (colExp c.val q.val) := by
  have hc := dev_lt c
  pointwise [k0_pay12]
  rw [rem_value, myId_value, col_div q]
  have h1 := col_dev ⟨c.val, hc⟩ ⟨q.val / 40, by omega⟩
  have h2 := col_word ⟨(c.val + 1 + q.val / 40) % 32, by omega⟩ ⟨q.val % 40, by omega⟩
  dsimp only at h1 h2
  rw [h1, h2]
  rfl

/-! ## Placing -/

/-- Token `t` of device `c` goes to column `q`. -/
def Sent (A : IVec S512 32) (c q : ℕ) (t : Fin 512) : Prop := q % 20 = rk A t ∧ A (ix1 t) = BitVec.ofNat 32 (colExp c q)

instance (A : IVec S512 32) (c q : ℕ) (t : Fin 512) : Decidable (Sent A c q t) := inferInstanceAs (Decidable (_ ∧ _))

theorem Sent.rk_eq {A : IVec S512 32} {c q : ℕ} {t : Fin 512} (h : Sent A c q t) : rk A t = pos A t := by
  unfold rk; rw [if_pos]
  rw [(word_iff (by have := colExp_lt c q; omega)).mp h.2]; exact colExp_lt c q

/-- A column is for at most one token. -/
theorem Sent.inj {A : IVec S512 32} {c q : ℕ} {s t : Fin 512} (h : Sent A c q s) (h' : Sent A c q t) : s = t :=
  pos_inj A (h.2.trans h'.2.symm) (by rw [← h.rk_eq, ← h'.rk_eq, ← h.1, ← h'.1])

variable (m : (ℓ : Loc nD τ sig) → Buf (Elt Ideal) ℓ)

/-- The placing matrix has its ones where a token goes to a column. -/
theorem place_value (c : Dev nD) (t : Fin 512) (q : Fin 1280) :
    (k0_pay14 (k0_pay6 (As m c)) (rank m c) k0_pay11 (k0_pay12 (myId c)) k0_pay13 (ix2 t q) : EReal)
      = if Sent (As m c) c.val q.val t then 1 else 0 := by
  pointwise [k0_pay14, k0_pay6]
  rw [bit_value, bit_eq, rem_value, cap_value, colExp_value]
  have h1 := col_rank ⟨q.val % 40, by omega⟩
  dsimp only at h1
  have h2 : q.val % 40 % 20 = q.val % 20 := by omega
  rw [h1, h2, word_value (by omega)]
  have h3 : (rank m c (ix2 t 0) : EReal) = ((rk (As m c) t : ℝ) : EReal) := rank_value (As m c) t
  rw [h3, bits_mul]
  refine if_congr ?_ rfl rfl
  unfold Sent
  simp

/-- The token a column is for, where there is one. -/
theorem hit_sum {A : IVec S512 32} {c q : ℕ} {t : Fin 512} (h : Sent A c q t) (f : Fin 512 → EReal) :
    ∑ s, (if Sent A c q s then (1 : EReal) else 0) * f s = f t := by
  rw [Finset.sum_eq_single t]
  · rw [if_pos h, one_mul]
  · intro s _ hs; rw [if_neg fun h' => hs (h'.inj h), zero_mul]
  · intro hn; exact absurd (Finset.mem_univ _) hn

/-- A column of no token takes nothing. -/
theorem miss_sum {A : IVec S512 32} {c q : ℕ} (h : ∀ t, ¬ Sent A c q t) (f : Fin 512 → EReal) :
    ∑ s, (if Sent A c q s then (1 : EReal) else 0) * f s = 0 :=
  Finset.sum_eq_zero fun s _ => by rw [if_neg (h s), zero_mul]

/-- An outgoing slot as a sum over the tokens. -/
theorem SG_sum (c : Dev nD) (k : Fin 32) (j : Fin 40) (d : Fin 512) :
    (SG m c (ix3 k j d) : EReal)
      = ∑ s, (if Sent (As m c) c.val (k.val * 40 + j.val) s then (1 : EReal) else 0) * (X m c (ix2 s d) : EReal) := by
  unfold SG
  pointwise [k0_pay16, k0_pay3]
  refine Finset.sum_congr rfl fun s _ => ?_
  rw [place_value]

/-- The slot of a token holds its row. -/
theorem SG_hit (c : Dev nD) (k : Fin 32) (j : Fin 40) (d : Fin 512) {t : Fin 512} (h : Sent (As m c) c.val (k.val * 40 + j.val) t) :
    (SG m c (ix3 k j d) : EReal) = X m c (ix2 t d) := (SG_sum m c k j d).trans (hit_sum h fun s => X m c (ix2 s d))

/-- A slot of no token holds zeros. -/
theorem SG_miss (c : Dev nD) (k : Fin 32) (j : Fin 40) (d : Fin 512) (h : ∀ t, ¬ Sent (As m c) c.val (k.val * 40 + j.val) t) :
    (SG m c (ix3 k j d) : EReal) = 0 := (SG_sum m c k j d).trans (miss_sum h fun s => X m c (ix2 s d))

/-- The combining matrix has its one in the row of the token its column is for. -/
theorem PA_hit (c : Dev nD) (q : Fin 1280) {t : Fin 512} (h : Sent (As m c) c.val q.val t) (s : Fin 512) :
    (PA m c (ix2 s q) : EReal) = if s = t then 1 else 0 := by
  unfold PA
  pointwise [k0_pay15, k0_pay7]
  have hs : ∑ x : Fin 512, (FloatOps.sitofp (F := Ideal) .f32 (BitVec.ofNat 32 x.val) : EReal)
        * (k0_pay14 (k0_pay6 (As m c)) (rank m c) k0_pay11 (k0_pay12 (myId c)) k0_pay13 (ix2 x q) : EReal)
      = ((t.val : ℝ) : EReal) := by
    refine (Finset.sum_congr rfl fun x _ => ?_).trans (hit_sum h fun x => ((x.val : ℝ) : EReal))
    rw [place_value, word_value (by omega), mul_comm]
  rw [bit_value, word_value (by omega)]
  refine if_congr ?_ rfl rfl
  rw [hs]
  simp [Fin.ext_iff]

end Cert.Exchange.Value

end
-- ==== Proof.Experts.lean ====
/-
What the experts compute for the slots, and what comes back to a device.
-/
module

public import proofs.«01_k».proof.Proof.Columns

@[expose] public section

set_option maxRecDepth 16384

noncomputable section

namespace Cert.Exchange.Value

open Cert.KernelIdeal Cert.KernelIdeal.Gen
open Idealize.ShloMosaic Idealize.ShloMosaic.TcCoe

variable (m : (ℓ : Loc nD τ sig) → Buf (Elt Ideal) ℓ)

/-- The two products of expert `e` of device `c`, for one row. -/
def ffn (c : Dev nD) (e : Fin 2) (row : Fin 512 → EReal) (d : Fin 512) : EReal :=
  ∑ f : Fin 1024, max (∑ x : Fin 512, row x * (Wa m c (ix3 e x f) : EReal)) 0 * (Wb m c (ix3 e f d) : EReal)

/-- An empty row stays empty. -/
theorem ffn_zero (c : Dev nD) (e : Fin 2) (row : Fin 512 → EReal) (h : ∀ x, row x = 0) (d : Fin 512) : ffn m c e row d = 0 := by
  unfold ffn
  refine Finset.sum_eq_zero fun f _ => ?_
  have : ∑ x : Fin 512, row x * (Wa m c (ix3 e x f) : EReal) = 0 := Finset.sum_eq_zero fun x _ => by rw [h x, zero_mul]
  rw [this, max_self, zero_mul]

/-- One chunk of slots through the two products, element by element. -/
theorem two_products (x : Vec Ideal S8x20x512 .bf16) (u : Vec Ideal S1x512x1024 .bf16) (v : Vec Ideal S1x1024x512 .bf16)
    (k : Fin 8) (j : Fin 20) (d : Fin 512) :
    (k0_pay20 (F := Ideal) x u v (ix3 k j d) : EReal)
      = ∑ f : Fin 1024, max (∑ y : Fin 512, (x (ix3 k j y) : EReal) * (u (ix3 0 y f) : EReal)) 0 * (v (ix3 0 f d) : EReal) := by
  pointwise [k0_pay20]

/-- The first weights are stored as they came. -/
theorem wa_read (w : FVec Ideal S2x512x1024 .bf16) (e : Fin 2) (y : Fin 512) (f : Fin 1024) : (k0_pay4 (F := Ideal) w (ix3 e y f) : EReal) = w (ix3 e y f) := by
  pointwise [k0_pay4]
/-- The second weights are stored as they came. -/
theorem wb_read (w : FVec Ideal S2x1024x512 .bf16) (e : Fin 2) (f : Fin 1024) (d : Fin 512) : (k0_pay5 (F := Ideal) w (ix3 e f d) : EReal) = w (ix3 e f d) := by
  pointwise [k0_pay5]

/-- What comes back in a slot: the products, by the expert the slot went to, of the row that was sent. -/
theorem RY_value (c : Dev nD) (k : Fin 32) (j : Fin 40) (d : Fin 512) :
    (RY m c (ix3 k j d) : EReal) = ffn m (dn c k.val) ⟨j.val / 20, by omega⟩ (fun x => SG m c (ix3 k j x)) d := by
  have e8 : at8 k.val j.val d.val = ix3 (⟨k.val % 8, by omega⟩ : Fin 8) (⟨j.val % 20, by omega⟩ : Fin 20) d :=
    idx3_ext rfl rfl (Nat.mod_eq_of_lt d.isLt)
  have h0 : RY m c (ix3 k j d) = k0_pay20 (half (RX m (dn c k.val)) (8 * (k.val / 8)) (20 * (j.val / 20)))
    (slab1 (k0_pay4 (Wa m (dn c k.val))) (j.val / 20)) (slab2 (k0_pay5 (Wb m (dn c k.val))) (j.val / 20))
    (at8 k.val j.val d.val) := rfl
  rw [h0, e8, two_products]
  unfold ffn
  refine Finset.sum_congr rfl fun f _ => ?_
  have hv : (slab2 (k0_pay5 (Wb m (dn c k.val))) (j.val / 20) (ix3 0 f d) : EReal) = Wb m (dn c k.val) (ix3 ⟨j.val / 20, by omega⟩ f d) := by
    refine Eq.trans (congrArg (k0_pay5 (Wb m (dn c k.val))) ?_) (wb_read _ _ _ _)
    exact (idx3_ext (Nat.mod_eq_of_lt (by omega)) (Nat.mod_eq_of_lt f.isLt) (Nat.mod_eq_of_lt d.isLt))
  have hx : ∀ y : Fin 512, (half (RX m (dn c k.val)) (8 * (k.val / 8)) (20 * (j.val / 20))
      (ix3 (⟨k.val % 8, by omega⟩ : Fin 8) (⟨j.val % 20, by omega⟩ : Fin 20) y) : EReal) = SG m c (ix3 k j y) := by
    intro y
    have ei : at3 (8 * (k.val / 8) + k.val % 8) (20 * (j.val / 20) + j.val % 20) y.val = ix3 k j y := by
      refine idx3_ext ?_ ?_ ?_
      · show (8 * (k.val / 8) + k.val % 8) % 32 = k.val; omega
      · show (20 * (j.val / 20) + j.val % 20) % 40 = j.val; omega
      · exact Nat.mod_eq_of_lt y.isLt
    show (RX m (dn c k.val) (at3 (8 * (k.val / 8) + k.val % 8) (20 * (j.val / 20) + j.val % 20) y.val) : EReal) = _
    rw [ei]
    show (SG m (up (dn c k.val) k.val) (ix3 k j y) : EReal) = _
    rw [up_dn]
  rw [hv]
  refine congrArg (fun z : EReal => max z 0 * _) (Finset.sum_congr rfl fun y _ => ?_)
  have hu : (slab1 (k0_pay4 (Wa m (dn c k.val))) (j.val / 20) (ix3 0 y f) : EReal) = Wa m (dn c k.val) (ix3 ⟨j.val / 20, by omega⟩ y f) := by
    refine Eq.trans (congrArg (k0_pay4 (Wa m (dn c k.val))) ?_) (wa_read _ _ _ _)
    exact (idx3_ext (Nat.mod_eq_of_lt (by omega)) (Nat.mod_eq_of_lt y.isLt) (Nat.mod_eq_of_lt f.isLt))
  rw [hx y, hu]

end Cert.Exchange.Value

end
-- ==== Proof.Combine.lean ====
/-
The result of a device: for each token the products of its expert.
-/
module

public import proofs.«01_k».proof.Proof.Experts

@[expose] public section

set_option maxRecDepth 16384

noncomputable section

namespace Cert.Exchange.Value

open Cert.KernelIdeal Cert.KernelIdeal.Gen
open Idealize.ShloMosaic Idealize.ShloMosaic.TcCoe

variable (m : (ℓ : Loc nD τ sig) → Buf (Elt Ideal) ℓ)

/-- What column `q` contributes to token `t`. -/
def part (c : Dev nD) (t d : Fin 512) (q : ℕ) : EReal :=
  (PA m c (ix2 t (⟨q % 1280, Nat.mod_lt _ (by decide)⟩ : Fin 1280)) : EReal)
    * (RY m c (ix3 (⟨q / 40 % 32, Nat.mod_lt _ (by decide)⟩ : Fin 32) (⟨q % 40, Nat.mod_lt _ (by decide)⟩ : Fin 40) d) : EReal)

/-- A run of 320 columns and the eight slots they read. -/
theorem part_band (c : Dev nD) (t d : Fin 512) (o b : ℕ) (ho : o = 40 * b) (hb : b + 8 ≤ 32) (x : Fin 320) (hx) (h8) (h40) :
    (PA m c (ix2 t (⟨o + x.val, hx⟩ : Fin 1280)) : EReal)
        * (band (RY m c) b (ix3 (⟨x.val / 40, h8⟩ : Fin 8) (⟨x.val % 40, h40⟩ : Fin 40) d) : EReal)
      = part m c t d (o + x.val) := by
  unfold part band
  have e1 : (⟨(o + x.val) % 1280, Nat.mod_lt _ (by decide)⟩ : Fin 1280) = ⟨o + x.val, hx⟩ := Fin.ext (Nat.mod_eq_of_lt hx)
  have e2 : at3 (b + x.val / 40) (x.val % 40) d.val
      = ix3 (⟨(o + x.val) / 40 % 32, Nat.mod_lt _ (by decide)⟩ : Fin 32) (⟨(o + x.val) % 40, Nat.mod_lt _ (by decide)⟩ : Fin 40) d := by
    refine idx3_ext ?_ ?_ ?_
    · show (b + x.val / 40) % 32 = (o + x.val) / 40 % 32; omega
    · show x.val % 40 % 40 = (o + x.val) % 40; omega
    · exact Nat.mod_eq_of_lt d.isLt
  rw [e1, ← e2]
  rfl

/-- A further run of 320 columns. -/
theorem part_more (c : Dev nD) (t d : Fin 512) (n k : ℕ) (h : n + 320 = k) :
    ∑ q ∈ Finset.range n, part m c t d q + ∑ x : Fin 320, part m c t d (n + x.val) = ∑ q ∈ Finset.range k, part m c t d q := by
  subst h
  rw [Finset.sum_range_add, ← Fin.sum_univ_eq_sum_range (fun x => part m c t d (n + x))]

/-- The result after the first eight slots. -/
theorem out0_sum (c : Dev nD) (t d : Fin 512) : (out0 m c (ix2 t d) : EReal) = ∑ q ∈ Finset.range 320, part m c t d q := by
  unfold out0
  pointwise [k0_pay30]
  rw [← part_more m c t d 0 320 rfl, Finset.sum_range_zero, zero_add]
  refine Finset.sum_congr rfl fun x _ => ?_
  have h := part_band m c t d 0 0 rfl (by decide) x (by omega) (by omega) (by omega)
  rw [← h]
  simp only [Nat.zero_add]

/-- The result after sixteen slots. -/
theorem out1_sum (c : Dev nD) (t d : Fin 512) : (out1 m c (ix2 t d) : EReal) = ∑ q ∈ Finset.range 640, part m c t d q := by
  unfold out1
  pointwise [k0_pay31]
  rw [out0_sum]
  refine (congrArg (_ + ·) (Finset.sum_congr rfl fun x _ => ?_)).trans (part_more m c t d 320 640 rfl)
  exact part_band m c t d 320 8 rfl (by decide) x (by omega) (by omega) (by omega)

/-- The result after twenty-four slots. -/
theorem out2_sum (c : Dev nD) (t d : Fin 512) : (out2 m c (ix2 t d) : EReal) = ∑ q ∈ Finset.range 960, part m c t d q := by
  unfold out2
  pointwise [k0_pay1, k0_pay32]
  rw [out1_sum]
  refine (congrArg (_ + ·) (Finset.sum_congr rfl fun x _ => ?_)).trans (part_more m c t d 640 960 rfl)
  exact part_band m c t d 640 16 rfl (by decide) x (by omega) (by omega) (by omega)

/-- The result as a sum over all columns. -/
theorem out3_sum (c : Dev nD) (t d : Fin 512) : (out3 m c (ix2 t d) : EReal) = ∑ q ∈ Finset.range 1280, part m c t d q := by
  unfold out3
  pointwise [k0_pay2]
  rw [out2_sum]
  refine (congrArg (_ + ·) (Finset.sum_congr rfl fun x _ => ?_)).trans (part_more m c t d 960 1280 rfl)
  exact part_band m c t d 960 24 rfl (by decide) x (by omega) (by omega) (by omega)

/-- A column contributes to the token it is for, and to no other. -/
theorem part_value (c : Dev nD) (t d : Fin 512) {q : ℕ} (hq : q < 1280) :
    part m c t d q = if Sent (As m c) c.val q t
      then ffn m (dn c (q / 40)) ⟨q % 40 / 20, by omega⟩ (fun x => X m c (ix2 t x)) d else 0 := by
  have hk : q / 40 % 32 = q / 40 := Nat.mod_eq_of_lt (by omega)
  have hq' : q % 1280 = q := Nat.mod_eq_of_lt hq
  have hkj : q / 40 % 32 * 40 + q % 40 = q := by omega
  unfold part
  rw [RY_value]
  dsimp only
  by_cases h : ∃ t0, Sent (As m c) c.val q t0
  · obtain ⟨t0, h0⟩ := h
    rw [PA_hit m c ⟨q % 1280, Nat.mod_lt _ (by decide)⟩ (t := t0) (by dsimp only; rw [hq']; exact h0)]
    have hrow : (fun x => (SG m c (ix3 (⟨q / 40 % 32, Nat.mod_lt _ (by decide)⟩ : Fin 32) (⟨q % 40, Nat.mod_lt _ (by decide)⟩ : Fin 40) x) : EReal))
        = fun x => X m c (ix2 t0 x) :=
      funext fun x => SG_hit m c _ _ x (t := t0) (by dsimp only; rw [hkj]; exact h0)
    rw [hrow]
    by_cases e : t = t0
    · subst e
      rw [if_pos rfl, if_pos h0, one_mul, hk]
    · rw [if_neg e, if_neg fun h' => e (h'.inj h0), zero_mul]
  · have hn : ∀ t0, ¬ Sent (As m c) c.val q t0 := fun t0 h0 => h ⟨t0, h0⟩
    rw [if_neg (hn t), ffn_zero, mul_zero]
    intro x
    exact SG_miss m c _ _ x (by dsimp only; rw [hkj]; exact hn)

/-- The column of a token of expert `e` and rank `r`. -/
theorem column_iff (c e r q : ℕ) (hc : c < 32) (he : e < 64) (hr : r < 20) (hq : q < 1280) :
    (q % 20 = r ∧ colExp c q = e) ↔ q = 40 * ((e / 2 + 63 - c) % 32) + 20 * (e % 2) + r := by
  unfold colExp
  constructor
  · rintro ⟨h1, h2⟩; omega
  · rintro rfl; constructor <;> omega

/-- The value of a token of expert `e`: the two products of that expert, and nothing where there is no such expert. -/
def share (e : ℕ) (row : Fin 512 → EReal) (d : Fin 512) : EReal :=
  if h : e < 64 then ffn m ⟨e / 2, by show _ < 32; omega⟩ ⟨e % 2, by omega⟩ row d else 0

/-- The result for a token: its expert's products, provided its rank is below the capacity. -/
theorem out3_value (c : Dev nD) (t d : Fin 512) (e : ℕ) (he : (As m c (ix1 t)).toNat = e) (hfit : e < 64 → pos (As m c) t < 20) :
    (out3 m c (ix2 t d) : EReal) = share m e (fun x => X m c (ix2 t x)) d := by
  have hc := dev_lt c
  rw [out3_sum]
  unfold share
  by_cases h : e < 64
  · rw [dif_pos h]
    have hr := hfit h
    have hrk : rk (As m c) t = pos (As m c) t := if_pos (he ▸ h)
    have hcol : ∀ q, q < 1280 → (Sent (As m c) c.val q t ↔ q = 40 * ((e / 2 + 63 - c.val) % 32) + 20 * (e % 2) + pos (As m c) t) := by
      intro q hq
      rw [← column_iff c.val e _ q hc h hr hq]
      unfold Sent
      rw [hrk, word_iff (by have := colExp_lt c.val q; omega), he]
      exact and_congr_right fun _ => eq_comm
    have hlt : 40 * ((e / 2 + 63 - c.val) % 32) + 20 * (e % 2) + pos (As m c) t < 1280 := by omega
    rw [Finset.sum_eq_single (40 * ((e / 2 + 63 - c.val) % 32) + 20 * (e % 2) + pos (As m c) t)]
    · rw [part_value m c t d hlt, if_pos ((hcol _ hlt).mpr rfl)]
      have e1 : dn c ((40 * ((e / 2 + 63 - c.val) % 32) + 20 * (e % 2) + pos (As m c) t) / 40) = ⟨e / 2, by show _ < 32; omega⟩ :=
        Fin.ext (by show (c.val + _ + 1) % 32 = e / 2; omega)
      have e2 : (⟨(40 * ((e / 2 + 63 - c.val) % 32) + 20 * (e % 2) + pos (As m c) t) % 40 / 20, by omega⟩ : Fin 2) = ⟨e % 2, by omega⟩ :=
        Fin.ext (by show _ % 40 / 20 = e % 2; omega)
      rw [e1, e2]
    · intro q hq hne
      rw [Finset.mem_range] at hq
      rw [part_value m c t d hq, if_neg fun h' => hne ((hcol q hq).mp h')]
    · intro hn; exact absurd (Finset.mem_range.mpr hlt) hn
  · rw [dif_neg h]
    refine Finset.sum_eq_zero fun q hq => ?_
    rw [Finset.mem_range] at hq
    rw [part_value m c t d hq, if_neg]
    intro h'
    have := (word_iff (by have := colExp_lt c.val q; omega)).mp h'.2
    have := colExp_lt c.val q
    omega

end Cert.Exchange.Value

end
-- ==== Proof.RefValue.lean ====
/-
What the reference computes: for each token the two products of the expert it is assigned to.
-/
module

public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.Exchange.Value

open Cert.ReferenceIdeal Cert.ReferenceIdeal.Gen
open Idealize.ShloMosaic Idealize.ShloMosaic.TcCoe

/-- The reference's result, as its operations compose. -/
def refOut (x : FVec Ideal S16384x512 .bf16) (a : IVec S16384 32) (u : FVec Ideal S64x512x1024 .bf16) (v : FVec Ideal S64x1024x512 .bf16) :
    FVec Ideal S16384x512 .f32 :=
  Host.reduceAdd (select
    (broadcastInDim S64x16384x512 ![0, 1, 2] bcast_S64x16384x1_S64x16384x512_0_1_2
      (broadcastInDim S64x16384x1 ![0, 1] bcast_S64x16384_S64x16384x1_0_1
        (cmpi .eq (broadcastInDim S64x16384 ![0, 1] bcast_S1x16384_S64x16384_0_1 (broadcastInDim S1x16384 ![1] bcast_S16384_S1x16384_1 a))
          (broadcastInDim S64x16384 ![0, 1] bcast_S64x1_S64x16384_0_1 (broadcastInDim S64x1 ![0] bcast_S64_S64x1_0 (iotaInDim S64 32 0))))))
    (Host.dotGeneral dot_S64x16384x1024_S64x1024x512_S64x16384x512_2_1_1_2_0_0 none
      (maximumf
        (transpose S64x16384x1024 [0, 2, 1]
          (Host.dotGeneral dot_S64x512x1024_S16384x512_S64x1024x16384_1_1_02_0_n_n none (extf .f32 u bitsLt_bf16_f32) (extf .f32 x bitsLt_bf16_f32))
          transposes_S64x1024x16384_S64x16384x1024_0_2_1)
        (broadcastInDim S64x16384x1024 ![] bcast_S_S64x16384x1024 (constant S_ .f32 0x00000000#32)))
      (extf .f32 v bitsLt_bf16_f32))
    (broadcastInDim S64x16384x512 ![] bcast_S_S64x16384x512 (id (constant S_ .f32 0x00000000#32))))
    (constant S_ .f32 0x00000000#32) reducesTo_S64x16384x512_S16384x512_d0 h_S_

/-- The two products of expert `e` for a row, from the whole weights. -/
def mlp (u : FVec Ideal S64x512x1024 .bf16) (v : FVec Ideal S64x1024x512 .bf16) (e : ℕ) (row : Fin 512 → EReal) (d : Fin 512) : EReal :=
  if h : e < 64 then
    ∑ f : Fin 1024, max (∑ y : Fin 512, row y * (u (ix3 (⟨e, h⟩ : Fin 64) y f) : EReal)) 0 * (v (ix3 (⟨e, h⟩ : Fin 64) f d) : EReal)
  else 0

theorem mlp_hit (u : FVec Ideal S64x512x1024 .bf16) (v : FVec Ideal S64x1024x512 .bf16) (e : Fin 64) (row : Fin 512 → EReal) (d : Fin 512) :
    mlp u v e.val row d
      = ∑ f : Fin 1024, max (∑ y : Fin 512, row y * (u (ix3 e y f) : EReal)) 0 * (v (ix3 e f d) : EReal) := dif_pos e.isLt

/-- The reference's result for a token is the products of the expert it names, and zero where it names none. -/
theorem refOut_value (x : FVec Ideal S16384x512 .bf16) (a : IVec S16384 32) (u : FVec Ideal S64x512x1024 .bf16) (v : FVec Ideal S64x1024x512 .bf16)
    (t : Fin 16384) (d : Fin 512) :
    (refOut x a u v (ix2 t d) : EReal) = mlp u v (a (ix1 t)).toNat (fun y => x (ix2 t y)) d := by
  unfold refOut
  pointwise
  have hz : (id (constant (F := Ideal) S_ .f32 0#32) ix0 : EReal) = 0 := by
    unfold id
    pointwise
  have hterm : ∀ e : Fin 64,
      (Scalar.select (IntOp.cmpi CmpIPredicate.eq (a (ix1 t)) (BitVec.ofNat 32 e.val))
        (∑ f : Fin 1024, max (∑ y : Fin 512, (u (ix3 e y f) : EReal) * (x (ix2 t y) : EReal)) 0 * (v (ix3 e f d) : EReal))
        (id (constant (F := Ideal) S_ .f32 0#32) ix0) : EReal)
      = if (a (ix1 t)).toNat = e.val then mlp u v e.val (fun y => x (ix2 t y)) d else 0 := by
    intro e
    rw [hz, mlp_hit]
    have hw : (a (ix1 t)).toNat = e.val ↔ a (ix1 t) = BitVec.ofNat 32 e.val := by
      constructor
      · intro h; apply BitVec.eq_of_toNat_eq; rw [h, BitVec.toNat_ofNat]; omega
      · intro h; rw [h, BitVec.toNat_ofNat]; omega
    have hs : ∀ f : Fin 1024, ∑ y : Fin 512, (u (ix3 e y f) : EReal) * (x (ix2 t y) : EReal) = ∑ y : Fin 512, (x (ix2 t y) : EReal) * (u (ix3 e y f) : EReal) :=
      fun f => Finset.sum_congr rfl fun y _ => mul_comm _ _
    by_cases h : a (ix1 t) = BitVec.ofNat 32 e.val
    · rw [if_pos (hw.mpr h), StableHlo.Predicate.cmpi_eq_iff.mpr h]
      show (∑ f : Fin 1024, max (∑ y : Fin 512, (u (ix3 e y f) : EReal) * (x (ix2 t y) : EReal)) 0 * (v (ix3 e f d) : EReal)) = _
      exact Finset.sum_congr rfl fun f _ => by rw [hs f]
    · rw [if_neg fun h' => h (hw.mp h')]
      exact if_neg fun h' => h (StableHlo.Predicate.cmpi_eq_iff.mp h')
  refine (Finset.sum_congr rfl fun e _ => hterm e).trans ?_
  by_cases h : (a (ix1 t)).toNat < 64
  · rw [Finset.sum_eq_single (⟨(a (ix1 t)).toNat, h⟩ : Fin 64)]
    · exact if_pos rfl
    · intro b _ hb; exact if_neg fun e => hb (Fin.ext e.symm)
    · intro hn; exact absurd (Finset.mem_univ _) hn
  · rw [Finset.sum_eq_zero]
    · unfold mlp; rw [dif_neg h]
    · intro e _; exact if_neg (by omega)

end Cert.Exchange.Value

end
-- ==== Proof.Fits.lean ====
/-
What the precondition says of a device's assignment: no expert is named more than twenty times.
-/
module

public import proofs.«01_k».proof.Pre_fits_KernelIdeal
public import proofs.«01_k».proof.Pre_fits_ReferenceIdeal
public import Idealize.ShloMosaic.Lib.Pointwise
public import Idealize.ShloMosaic.Lib.StableHlo.Predicate

@[expose] public section

set_option maxRecDepth 16384

noncomputable section

namespace Cert.Exchange.Value

open Cert.Pre_fits_KernelIdeal
open Idealize.ShloMosaic Idealize.ShloMosaic.TcCoe

/-- The side conditions of the precondition, read of one device. -/
theorem pre_facts : Cert.Pre_fits_KernelIdeal.Facts :=
  ⟨by decide, by decide, by decide, by decide, by decide, by decide, by decide, by decide⟩

/-- The side conditions of the precondition, read of the whole arrays. -/
theorem pre_facts_whole : Cert.Pre_fits_ReferenceIdeal.Facts :=
  ⟨by decide, by decide, by decide, by decide, by decide, by decide, by decide, by decide⟩

variable [hf : Cert.Pre_fits_KernelIdeal.Facts]
open Cert.Pre_fits_KernelIdeal.Facts

/-- Which tokens name which expert. -/
def hits (A : IVec S512 32) : IVec S64x512 1 :=
  cmpi .eq (broadcastInDim S64x512 ![0, 1] bcast_S1x512_S64x512_0_1 (broadcastInDim S1x512 ![1] bcast_S512_S1x512_1 A))
    (broadcastInDim S64x512 ![0, 1] bcast_S64x1_S64x512_0_1 (broadcastInDim S64x1 ![0] bcast_S64_S64x1_0 (iotaInDim S64 32 0)))

/-- Where the table of hits is set. -/
theorem hits_iff (A : IVec S512 32) (e : Fin 64) (t : Fin 512) :
    hits A (StableHlo.Predicate.ij e t) = 1#1 ↔ A (ix1 t) = BitVec.ofNat 32 e.val := by
  have h : hits A (ix2 e t) = IntOp.cmpi .eq (A (ix1 t)) (BitVec.ofNat 32 e.val) := by
    unfold hits
    pointwise
  have hi : (StableHlo.Predicate.ij e t : S64x512.Idx) = ix2 e t := by
    funext b; match b with | ⟨0, _⟩ => rfl | ⟨1, _⟩ => rfl
  rw [hi, h]
  exact StableHlo.Predicate.cmpi_eq_iff

/-- The precondition bounds the number of tokens of every expert. -/
theorem fits_card (x : FVec Ideal S512x512 .bf16) (A : IVec S512 32) (u : FVec Ideal S2x512x1024 .bf16) (v : FVec Ideal S2x1024x512 .bf16)
    (h : Cert.Pre_fits_KernelIdeal.fn (F := Ideal) x A u v = fun _ => 1#1) (e : Fin 64) :
    (Finset.univ.filter fun t : Fin 512 => A (ix1 t) = BitVec.ofNat 32 e.val).card ≤ 20 := by
  have hc := StableHlo.Predicate.toNat_reduce_count_cols (by decide) (hits A) natLt_1_32 reducesTo_S64x512_S64_d1 h_S_ (ix1 e)
  have he : (Finset.univ.filter fun t : Fin 512 => hits A (StableHlo.Predicate.ij ((ix1 e : S64.Idx) 0) t) = 1#1)
      = Finset.univ.filter fun t : Fin 512 => A (ix1 t) = BitVec.ofNat 32 e.val :=
    Finset.filter_congr fun t _ => hits_iff A e t
  rw [he] at hc
  have hle : (Finset.univ.filter fun t : Fin 512 => A (ix1 t) = BitVec.ofNat 32 e.val).card ≤ 512 :=
    (Finset.card_le_univ _).trans (by simp)
  have h1 : IntOp.cmpi .sle (Host.reduce IntOp.addi (extui 32 (hits A) natLt_1_32) (constantI S_ 32 0#32) reducesTo_S64x512_S64_d1 h_S_ (ix1 e)) 20#32 = 1#1 :=
    congrFun h (ix1 e)
  rw [StableHlo.Predicate.sle_iff_toNat (by rw [hc]; omega) (by decide), hc] at h1
  exact h1

end Cert.Exchange.Value

end
-- ==== Proof.Equation.lean ====
/-
The equation: each device's result is its block of the reference's.
-/
module

public import proofs.«01_k».proof.Proof.Combine
public import proofs.«01_k».proof.Proof.RefValue
public import proofs.«01_k».proof.Proof.Fits
public import proofs.«01_k».proof.Proof.Result
public import Idealize.ShloMosaic.Lib.Layout

@[expose] public section

set_option maxRecDepth 16384

noncomputable section

namespace Cert.Exchange.Value

open Cert.KernelIdeal Cert.KernelIdeal.Gen
open Idealize.ShloMosaic Idealize.ShloMosaic.TcCoe

variable (m : (ℓ : Loc nD τ sig) → Buf (Elt Ideal) ℓ)
  (x : FVec Ideal Cert.ReferenceIdeal.S16384x512 .bf16) (a : IVec Cert.ReferenceIdeal.S16384 32)
  (u : FVec Ideal Cert.ReferenceIdeal.S64x512x1024 .bf16) (v : FVec Ideal Cert.ReferenceIdeal.S64x1024x512 .bf16)

/-- Every device's arguments are its blocks of the whole ones. -/
structure Blocks : Prop where
  h0 : ∀ c : Dev nD, m ((c : Thread nD τ).loc main_arg0) = Layout.block ⟨2, ![512, 512]⟩ ⟨2, ![16384, 512]⟩ 0 32 c x
  h1 : ∀ c : Dev nD, m ((c : Thread nD τ).loc main_arg1) = Layout.block ⟨1, ![512]⟩ ⟨1, ![16384]⟩ 0 32 c a
  h2 : ∀ c : Dev nD, m ((c : Thread nD τ).loc main_arg2) = Layout.block ⟨3, ![2, 512, 1024]⟩ ⟨3, ![64, 512, 1024]⟩ 0 32 c u
  h3 : ∀ c : Dev nD, m ((c : Thread nD τ).loc main_arg3) = Layout.block ⟨3, ![2, 1024, 512]⟩ ⟨3, ![64, 1024, 512]⟩ 0 32 c v

/-- The whole array's row of a device's row. -/
def row (c : Dev nD) (t : Fin 512) : Fin 16384 := ⟨c.val * 512 + t.val, by have := dev_lt c; omega⟩
/-- The whole array's expert of a device's expert. -/
def expert (c : Dev nD) (e : Fin 2) : Fin 64 := ⟨c.val * 2 + e.val, by have := dev_lt c; omega⟩

variable {m x a u v}
variable (B : Blocks m x a u v)
include B

/-- A device's tokens in the whole array. -/
theorem X_block (c : Dev nD) (t y : Fin 512) : X m c (ix2 t y) = x (ix2 (row c t) y) := by
  unfold X
  rw [whole_0, B.h0]
  refine congrArg x (funext fun k => ?_)
  fin_cases k <;> exact Fin.ext rfl

/-- A device's assignment in the whole array. -/
theorem As_block (c : Dev nD) (t : Fin 512) : As m c (ix1 t) = a (ix1 (row c t)) := by
  unfold As
  rw [whole_1, B.h1]
  refine congrArg a (funext fun k => ?_)
  fin_cases k; exact Fin.ext rfl

/-- A device's first weights in the whole array. -/
theorem Wa_block (c : Dev nD) (e : Fin 2) (y : Fin 512) (f : Fin 1024) : Wa m c (ix3 e y f) = u (ix3 (expert c e) y f) := by
  unfold Wa
  rw [whole_2, B.h2]
  exact congrArg u (idx3_ext rfl rfl rfl)

/-- A device's second weights in the whole array. -/
theorem Wb_block (c : Dev nD) (e : Fin 2) (f : Fin 1024) (d : Fin 512) : Wb m c (ix3 e f d) = v (ix3 (expert c e) f d) := by
  unfold Wb
  rw [whole_3, B.h3]
  exact congrArg v (idx3_ext rfl rfl rfl)

/-- The devices' experts, together, are the reference's. -/
theorem share_eq (e : ℕ) (r : Fin 512 → EReal) (d : Fin 512) : share m e r d = mlp u v e r d := by
  unfold share mlp
  by_cases h : e < 64
  · rw [dif_pos h, dif_pos h]
    unfold ffn
    have he : expert ⟨e / 2, by show _ < 32; omega⟩ ⟨e % 2, by omega⟩ = ⟨e, h⟩ := Fin.ext (by show e / 2 * 2 + e % 2 = e; omega)
    refine Finset.sum_congr rfl fun f _ => ?_
    rw [Wb_block B, he]
    refine congrArg (fun z : EReal => max z 0 * _) (Finset.sum_congr rfl fun y _ => ?_)
    rw [Wa_block B, he]
  · rw [dif_neg h, dif_neg h]

omit B in
/-- A device's block of the result, by rows. -/
theorem block_row (w : FVec Ideal Cert.ReferenceIdeal.S16384x512 .f32) (c : Dev nD) (t d : Fin 512) :
    (Layout.block ⟨2, ![512, 512]⟩ ⟨2, ![16384, 512]⟩ 0 32 c w : Vec Ideal S512x512 .f32) (ix2 t d) = w (ix2 (row c t) d) := by
  refine congrArg w (funext fun k => ?_)
  fin_cases k <;> exact Fin.ext rfl

/-- A device's result, element by element. -/
theorem out_at (hfit : ∀ (c : Dev nD) (e : Fin 64), (Finset.univ.filter fun t : Fin 512 => As m c (ix1 t) = BitVec.ofNat 32 e.val).card ≤ 20)
    (c : Dev nD) (t d : Fin 512) : (out3 m c (ix2 t d) : EReal) = refOut x a u v (ix2 (row c t) d) := by
  rw [out3_value m c t d _ rfl, share_eq B, refOut_value, As_block B]
  · exact congrArg (fun r => mlp u v _ r d) (funext fun y => X_block B c t y)
  · intro h
    have h1 := pos_lt_card (As m c) t
    have h2 := hfit c ⟨_, h⟩
    have h3 : As m c (ix1 t) = BitVec.ofNat 32 (As m c (ix1 t)).toNat := (word_iff (by omega)).mpr rfl
    dsimp only at h2
    rw [← h3] at h2
    omega

/-- A device's result is its block of the reference's. -/
theorem out_block (hfit : ∀ (c : Dev nD) (e : Fin 64), (Finset.univ.filter fun t : Fin 512 => As m c (ix1 t) = BitVec.ofNat 32 e.val).card ≤ 20) (c : Dev nD) :
    out3 m c = Layout.block ⟨2, ![512, 512]⟩ ⟨2, ![16384, 512]⟩ 0 32 c (refOut x a u v) := by
  have h := out_at B hfit c
  generalize refOut x a u v = w at h ⊢
  funext i
  rw [eq_ix2 i]
  exact (h _ _).trans (block_row w c _ _).symm

end Cert.Exchange.Value

end
-- ==== Proof.lean ====
/- The claims of this certificate, assembled: the runs of the kernel (as printed and read ideally) come from one launch
   stated over any float values, the run of the reference from its straight-line form; the values of the two are compared in `Proof/Equation.lean`. -/
module

public import proofs.«01_k».proof.Defs
public import proofs.«01_k».proof.Proof.Result
public import proofs.«01_k».proof.Proof.Same
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m ρ _ => by
  have h := Cert.Exchange.run_frame (F := Bits) m ρ
  rw [← Cert.Exchange.defs_eq] at h
  exact h

theorem frame_ideal : Cert.quiescent_KernelIdeal := fun m ρ _ =>
  Cert.Exchange.run_frame (F := Ideal) m ρ

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Under the precondition no device names an expert more than twenty times. -/
theorem fits_each (m : (ℓ : Loc Cert.KernelIdeal.nD Cert.KernelIdeal.τ Cert.KernelIdeal.sig) → Buf (Elt Ideal) ℓ)
    (h : Cert.Pre_KernelIdeal_fits_KernelIdeal (hPre_fits_KernelIdeal := Cert.Exchange.Value.pre_facts) m) (c : Dev Cert.KernelIdeal.nD) (e : Fin 64) :
    (Finset.univ.filter fun t : Fin 512 => Cert.Exchange.As m c (ix1 t) = BitVec.ofNat 32 e.val).card ≤ 20 := by
  have h1 : Cert.Exchange.As m c = m ((c.tc : Thread Cert.KernelIdeal.nD Cert.KernelIdeal.τ).loc Cert.KernelIdeal.main_arg1) :=
    Cert.Exchange.whole_1 _
  rw [h1]
  exact Cert.Exchange.Value.fits_card (hf := Cert.Exchange.Value.pre_facts) _ _ _ _ (h c) e

/-- Each device's result is its block of the reference's, over the extended reals, where no device names an expert more
    than twenty times. -/
theorem algebraic : Cert.algebraic_KernelIdeal_ReferenceIdeal_pre_fits_KernelIdeal (hPre_fits_KernelIdeal := Cert.Exchange.Value.pre_facts) :=
  fun m ρ m' ρ' hpre hin => by
    refine ⟨Cert.Exchange.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
    · have B : Cert.Exchange.Value.Blocks m _ _ _ _ :=
        ⟨fun c => (hin c).1, fun c => (hin c).2.1, fun c => (hin c).2.2.1, fun c => (hin c).2.2.2⟩
      have hv := Cert.Exchange.Value.out_block B (fits_each m hpre)
      refine (θ_run Cert.KernelIdeal.defs _ _).mono (fun r h c => ?_) (Cert.Exchange.run_value (F := Ideal) m ρ)
      exact ⟨(h.1 c).1.trans (hv c), (h.1 c).2⟩
    · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts,
    Cert.Exchange.Value.pre_facts, Cert.Exchange.Value.pre_facts_whole, frame_kernel, frame_ideal,
    fun m ρ _ => frame_ideal m ρ trivial, frame_reference, fun m ρ _ => frame_reference m ρ trivial, trivial, algebraic⟩

end Cert.Proof

end
